-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 1024, 8, 128]⟩ ⟨4, ![4, 1024, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![4, 1024, 8, 128]⟩ ⟨4, ![4, 1024, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x8x128 : S_.BroadcastsInDim S4x1024x8x128 (![] : Fin 0 → Fin S4x1024x8x128.rank)
  reducesTo_S4x1024x8x128_S_d0_1_2_3 : S4x1024x8x128.ReducesTo [0, 1, 2, 3] S_

variable [Facts]

def fn {F : FTy → Type} [FloatOps F] (main_arg0 : FVec F S4x256x1024 .f32) (main_arg1 : FVec F S1024x1024 .f32) (main_arg2 : FVec F S4x1024x8x128 .f32) (main_arg3 : FVec F S4x1024x8x128 .f32) (main_arg4 : FVec F S1024x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x8x128 .f32 := Host.absf main_arg2
  let main_cst_2 : FVec F S_ .f32 := constant S_ .f32 0x7F800000#32
  let main_v10 : FVec F S4x1024x8x128 .f32 := broadcastInDim S4x1024x8x128 ![] bcast_S_S4x1024x8x128 main_cst_2
  let main_v11 : IVec S4x1024x8x128 1 := cmpf .olt main_v9 main_v10
  let main_c_3 : IVec S_ 1 := constantI S_ 1 1#1
  let main_v12 : IVec S_ 1 := (fun x v => Host.reduce IntOp.andi x v reducesTo_S4x1024x8x128_S_d0_1_2_3 h_S_) main_v11 main_c_3
  let main_v13 : IVec S_ 1 := andi main_v8 main_v12
  main_v13
-- ==== Pre_finite_scores_ReferenceIdeal.lean ====
abbrev S4x256x1024 : Shape := ⟨3, ![4, 256, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S4x256x1024 .f32) (main_arg1 : FVec F S1024x4096 .f32) (main_arg2 : FVec F S4x1024x32x128 .f32) (main_arg3 : FVec F S4x1024x32x128 .f32) (main_arg4 : FVec F S4096x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Kernel.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S2x256x1024 : Shape := ⟨3, ![2, 256, 1024]⟩
abbrev S1x3x256x1024 : Shape := ⟨4, ![1, 3, 256, 1024]⟩
abbrev S256x1024 : Shape := ⟨2, ![256, 1024]⟩
abbrev S2x8x1x1024x128 : Shape := ⟨5, ![2, 8, 1, 1024, 128]⟩
abbrev S2 : Shape := ⟨1, ![2]⟩
abbrev S3 : Shape := ⟨1, ![3]⟩
abbrev S4 : Shape := ⟨1, ![4]⟩
abbrev S_ : Shape := ⟨0, ![]⟩
abbrev S1 : Shape := ⟨1, ![1]⟩
abbrev S1x1x1x1024x128 : Shape := ⟨5, ![1, 1, 1, 1024, 128]⟩
abbrev S1x1024x128 : Shape := ⟨3, ![1, 1024, 128]⟩
abbrev S1x1024x1x128 : Shape := ⟨4, ![1, 1024, 1, 128]⟩
abbrev S1x256x1024 : Shape := ⟨3, ![1, 256, 1024]⟩
abbrev S256x128 : Shape := ⟨2, ![256, 128]⟩
abbrev S1024x128 : Shape := ⟨2, ![1024, 128]⟩
abbrev S256 : Shape := ⟨1, ![256]⟩
abbrev S256x1 : Shape := ⟨2, ![256, 1]⟩
abbrev S1x1x256x1024 : Shape := ⟨4, ![1, 1, 256, 1024]⟩
abbrev S1x128x1024 : Shape := ⟨3, ![1, 128, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x8x128, .f32⟩
  | .hbm, ⟨3, _⟩ => ⟨S4x1024x8x128, .f32⟩
  | .hbm, ⟨4, _⟩ => ⟨S1024x1024, .f32⟩
  | .hbm, ⟨5, _⟩ => ⟨S4x256x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S4x256x1024, .f32⟩
  | .local _ .vmem, ⟨4, _⟩ => ⟨S2x256x1024, .f32⟩
  | .local _ .vmem, ⟨5, _⟩ => ⟨S1x3x256x1024, .f32⟩
  | .local _ .vmem, ⟨6, _⟩ => ⟨S256x1024, .f32⟩
  | .local _ .vmem, ⟨7, _⟩ => ⟨S2x8x1x1024x128, .f32⟩
  | .local _ .vmem, ⟨8, _⟩ => ⟨S2x8x1x1024x128, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_9 : BitVec 32 := 1#32
  let v13 : BitVec 32 := Scalar.muli v5 c1_i32_9
  let v14 : BitVec 32 := Scalar.addi c0_i32 v13
  v14.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_11 : BitVec 32 := 1#32
  let v15 : BitVec 32 := Scalar.muli v7 c1_i32_11
  let v16 : BitVec 32 := Scalar.addi c0_i32_12 v15
  v16.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_14 : BitVec 32 := 1#32
  let v17 : BitVec 32 := Scalar.muli v9 c1_i32_14
  let v18 : BitVec 32 := Scalar.addi c0_i32_15 v17
  v18.toNat
def k0_off1 (d0 : Dev nD) (c0_i32_16 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_16
  let c4_i32_17 : BitVec 32 := 4#32
  let v20 : BitVec 32 := Scalar.addi v19 c4_i32_17
  let c4_i32_18 : BitVec 32 := 4#32
  let v21 : BitVec 32 := Scalar.remsi v20 c4_i32_18
  let c0_i32_26 : BitVec 32 := 0#32
  let c0_i32_19 : BitVec 32 := 0#32
  let c0_i32_27 : BitVec 32 := 0#32
  ![v21.toNat, 0, 0, 0]
def k0_off2 (d0 : Dev nD) (c0_i32_16 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_16
  let c4_i32_17 : BitVec 32 := 4#32
  let v20 : BitVec 32 := Scalar.addi v19 c4_i32_17
  let c4_i32_18 : BitVec 32 := 4#32
  let v21 : BitVec 32 := Scalar.remsi v20 c4_i32_18
  let c0_i32_44 : BitVec 32 := 0#32
  let c1_i32_37 : BitVec 32 := 1#32
  let c0_i32_45 : BitVec 32 := 0#32
  ![v21.toNat, 0, 1, 0]
def k0_off3 (d0 : Dev nD) (c0_i32_16 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_16
  let c4_i32_17 : BitVec 32 := 4#32
  let v20 : BitVec 32 := Scalar.addi v19 c4_i32_17
  let c4_i32_18 : BitVec 32 := 4#32
  let v21 : BitVec 32 := Scalar.remsi v20 c4_i32_18
  let c0_i32_62 : BitVec 32 := 0#32
  let c2_i32_55 : BitVec 32 := 2#32
  let c0_i32_63 : BitVec 32 := 0#32
  ![v21.toNat, 0, 2, 0]
def k0_off4 (d0 : Dev nD) (c0_i32_16 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_16
  let c4_i32_17 : BitVec 32 := 4#32
  let v20 : BitVec 32 := Scalar.addi v19 c4_i32_17
  let c4_i32_18 : BitVec 32 := 4#32
  let v21 : BitVec 32 := Scalar.remsi v20 c4_i32_18
  let c0_i32_80 : BitVec 32 := 0#32
  let c3_i32_73 : BitVec 32 := 3#32
  let c0_i32_81 : BitVec 32 := 0#32
  ![v21.toNat, 0, 3, 0]
def k0_off5 (d0 : Dev nD) (c0_i32_16 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_16
  let c4_i32_17 : BitVec 32 := 4#32
  let v20 : BitVec 32 := Scalar.addi v19 c4_i32_17
  let c4_i32_18 : BitVec 32 := 4#32
  let v21 : BitVec 32 := Scalar.remsi v20 c4_i32_18
  let c0_i32_98 : BitVec 32 := 0#32
  let c4_i32_91 : BitVec 32 := 4#32
  let c0_i32_99 : BitVec 32 := 0#32
  ![v21.toNat, 0, 4, 0]
def k0_off6 (d0 : Dev nD) (c0_i32_16 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_16
  let c4_i32_17 : BitVec 32 := 4#32
  let v20 : BitVec 32 := Scalar.addi v19 c4_i32_17
  let c4_i32_18 : BitVec 32 := 4#32
  let v21 : BitVec 32 := Scalar.remsi v20 c4_i32_18
  let c0_i32_115 : BitVec 32 := 0#32
  let c5_i32 : BitVec 32 := 5#32
  let c0_i32_116 : BitVec 32 := 0#32
  ![v21.toNat, 0, 5, 0]
def k0_off7 (d0 : Dev nD) (c0_i32_16 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_16
  let c4_i32_17 : BitVec 32 := 4#32
  let v20 : BitVec 32 := Scalar.addi v19 c4_i32_17
  let c4_i32_18 : BitVec 32 := 4#32
  let v21 : BitVec 32 := Scalar.remsi v20 c4_i32_18
  let c0_i32_132 : BitVec 32 := 0#32
  let c6_i32 : BitVec 32 := 6#32
  let c0_i32_133 : BitVec 32 := 0#32
  ![v21.toNat, 0, 6, 0]
def k0_off8 (d0 : Dev nD) (c0_i32_16 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_16
  let c4_i32_17 : BitVec 32 := 4#32
  let v20 : BitVec 32 := Scalar.addi v19 c4_i32_17
  let c4_i32_18 : BitVec 32 := 4#32
  let v21 : BitVec 32 := Scalar.remsi v20 c4_i32_18
  let c0_i32_149 : BitVec 32 := 0#32
  let c7_i32 : BitVec 32 := 7#32
  let c0_i32_150 : BitVec 32 := 0#32
  ![v21.toNat, 0, 7, 0]
def k0_off9 (d0 : Dev nD) (c0_i32_307 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v217 : BitVec 32 := Scalar.subi v2 c0_i32_307
  let c4_i32_308 : BitVec 32 := 4#32
  let v218 : BitVec 32 := Scalar.addi v217 c4_i32_308
  let c4_i32_309 : BitVec 32 := 4#32
  let v219 : BitVec 32 := Scalar.remsi v218 c4_i32_309
  let v220 : Index := Scalar.indexCast v219
  let c0 : Index := 0#32
  let c0_310 : Index := 0#32
  ![v220.toNat, 0, 0]
def k0_dev4 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_584 : BitVec 32 := 1#32
  let v466 : BitVec 32 := Scalar.muli v5 c1_i32_584
  let v467 : BitVec 32 := Scalar.addi c0_i32_585 v466
  v467.toNat
def k0_dev5 (d0 : Dev nD) : Nat :=
  let c0_i32_1031 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_1030 : BitVec 32 := 1#32
  let v824 : BitVec 32 := Scalar.muli v9 c1_i32_1030
  let v825 : BitVec 32 := Scalar.addi c0_i32_1031 v824
  v825.toNat
def k0_dev6 (d0 : Dev nD) : Nat :=
  let c0_i32_1487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1486 : BitVec 32 := 1#32
  let v1188 : BitVec 32 := Scalar.muli v7 c1_i32_1486
  let v1189 : BitVec 32 := Scalar.addi c0_i32_1487 v1188
  v1189.toNat
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.addi v2 c1_i32_6
  let c4_i32_7 : BitVec 32 := 4#32
  let v11 : BitVec 32 := Scalar.remsi v10 c4_i32_7
  let v1489 : Index := Scalar.indexCast v11
  let c0_1841 : Index := 0#32
  let c0_1842 : Index := 0#32
  ![v1489.toNat, 0, 0]
def k0_off11 (d0 : Dev nD) (c1_i32_6 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10 : BitVec 32 := Scalar.addi v2 c1_i32_6
  let c4_i32_7 : BitVec 32 := 4#32
  let v11 : BitVec 32 := Scalar.remsi v10 c4_i32_7
  let c0_i32_1847 : BitVec 32 := 0#32
  let c0_i32_1848 : BitVec 32 := 0#32
  ![v11.toNat, 0, 0]
def k0_dev7 (d0 : Dev nD) : Nat :=
  let c0_i32_1846 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1845 : BitVec 32 := 1#32
  let v1491 : BitVec 32 := Scalar.muli v7 c1_i32_1845
  let v1492 : BitVec 32 := Scalar.addi c0_i32_1846 v1491
  v1492.toNat
def k0_dev8 (d0 : Dev nD) : Nat :=
  let c0_i32_1854 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1853 : BitVec 32 := 1#32
  let v1499 : BitVec 32 := Scalar.muli v5 c1_i32_1853
  let v1500 : BitVec 32 := Scalar.addi c0_i32_1854 v1499
  v1500.toNat
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1867 : BitVec 32 := 0#32
  let c0_i32_1868 : BitVec 32 := 0#32
  ![v2.toNat, 0, 0]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1875 : BitVec 32 := 0#32
  let c0_i32_1876 : BitVec 32 := 0#32
  ![v2.toNat, 0, 0]
def k0_dev9 (d0 : Dev nD) : Nat :=
  let c0_i32_1874 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1873 : BitVec 32 := 1#32
  let v1517 : BitVec 32 := Scalar.muli v7 c1_i32_1873
  let v1518 : BitVec 32 := Scalar.addi c0_i32_1874 v1517
  v1518.toNat
def k0_off14 (d0 : Dev nD) (c2_i32_1859 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1507 : BitVec 32 := Scalar.addi v2 c2_i32_1859
  let c4_i32_1860 : BitVec 32 := 4#32
  let v1508 : BitVec 32 := Scalar.remsi v1507 c4_i32_1860
  let c128_i32 : BitVec 32 := 128#32
  let c0_i32_1891 : BitVec 32 := 0#32
  ![v1508.toNat, 128, 0]
def k0_dev10 (d0 : Dev nD) : Nat :=
  let c0_i32_1890 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1889 : BitVec 32 := 1#32
  let v1531 : BitVec 32 := Scalar.muli v5 c1_i32_1889
  let v1532 : BitVec 32 := Scalar.addi c0_i32_1890 v1531
  v1532.toNat
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1861 : BitVec 32 := 3#32
  let v1509 : BitVec 32 := Scalar.addi v2 c3_i32_1861
  let c4_i32_1862 : BitVec 32 := 4#32
  let v1510 : BitVec 32 := Scalar.remsi v1509 c4_i32_1862
  let c0_i32_1898 : BitVec 32 := 0#32
  let c0_i32_1899 : BitVec 32 := 0#32
  ![v1510.toNat, 0, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x256x4096 : Shape := ⟨3, ![4, 256, 4096]⟩
abbrev S4x256x32x128 : Shape := ⟨4, ![4, 256, 32, 128]⟩
abbrev S_ : Shape := ⟨0, ![]⟩
abbrev S4x32x256x1 : Shape := ⟨4, ![4, 32, 256, 1]⟩
abbrev S4x32x256x1024 : Shape := ⟨4, ![4, 32, 256, 1024]⟩
abbrev S4x32x256 : Shape := ⟨3, ![4, 32, 256]⟩
abbrev S4x256x32x1 : Shape := ⟨4, ![4, 256, 32, 1]⟩
abbrev S4x32x128x256 : Shape := ⟨4, ![4, 32, 128, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x4096, .f32⟩
  | .hbm, ⟨2, _⟩ => ⟨S4x1024x32x128, .f32⟩
  | .hbm, ⟨3, _⟩ => ⟨S4x1024x32x128, .f32⟩
  | .hbm, ⟨4, _⟩ => ⟨S4096x1024, .f32⟩
  | .hbm, ⟨5, _⟩ => ⟨S4x256x4096, .f32⟩
  | .hbm, ⟨6, _⟩ => ⟨S4x256x32x128, .f32⟩
  | .hbm, ⟨7, _⟩ => ⟨S_, .f32⟩
  | .hbm, ⟨8, _⟩ => ⟨S4x256x32x128, .f32⟩
  | .hbm, ⟨9, _⟩ => ⟨S_, .f32⟩
  | .hbm, ⟨10, _⟩ => ⟨S4x32x256x1, .f32⟩
  | .hbm, ⟨11, _⟩ => ⟨S_, .f32⟩
  | .hbm, ⟨12, _⟩ => ⟨S4x32x256x1, .f32⟩
  | .hbm, ⟨13, _⟩ => ⟨S4x32x256x1024, .f32⟩
  | .hbm, ⟨14, _⟩ => ⟨S_, .f32⟩
  | .hbm, ⟨15, _⟩ => ⟨S4x32x256x1024, .f32⟩
  | .hbm, ⟨16, _⟩ => ⟨S4x32x256x1024, .f32⟩
  | .hbm, ⟨17, _⟩ => ⟨S_, .f32⟩
  | .hbm, ⟨18, _⟩ => ⟨S4x32x256, .f32⟩
  | .hbm, ⟨19, _⟩ => ⟨S4x32x256x1, .f32⟩
  | .hbm, ⟨20, _⟩ => ⟨S4x32x256x1, .f32⟩
  | .hbm, ⟨21, _⟩ => ⟨S4x32x256x1, .f32⟩
  | .hbm, ⟨22, _⟩ => ⟨S4x32x256x1, .f32⟩
  | .hbm, ⟨23, _⟩ => ⟨S4x32x256x1024, .f32⟩
  | .hbm, ⟨24, _⟩ => ⟨S4x32x256x1024, .f32⟩
  | .hbm, ⟨25, _⟩ => ⟨S4x32x256x1024, .f32⟩
  | .hbm, ⟨26, _⟩ => ⟨S4x32x256x1, .f32⟩
  | .hbm, ⟨27, _⟩ => ⟨S_, .f32⟩
  | .hbm, ⟨28, _⟩ => ⟨S4x32x256, .f32⟩
  | .hbm, ⟨29, _⟩ => ⟨S4x32x256x1, .f32⟩
  | .hbm, ⟨30, _⟩ => ⟨S4x32x256x1, .f32⟩
  | .hbm, ⟨31, _⟩ => ⟨S4x256x32x1, .f32⟩
  | .hbm, ⟨32, _⟩ => ⟨S4x256x32x128, .f32⟩
  | .hbm, ⟨33, _⟩ => ⟨S4x256x32x128, .f32⟩
  | .hbm, ⟨34, _⟩ => ⟨S4x32x128x256, .f32⟩
  | .hbm, ⟨35, _⟩ => ⟨S4x256x32x128, .f32⟩
  | .hbm, ⟨36, _⟩ => ⟨S4x256x32x128, .f32⟩
  | .hbm, ⟨37, _⟩ => ⟨S4x256x32x1, .f32⟩
  | .hbm, ⟨38, _⟩ => ⟨S4x256x32x128, .f32⟩
  | .hbm, ⟨39, _⟩ => ⟨S4x256x32x128, .f32⟩
  | .hbm, ⟨40, _⟩ => ⟨S4x256x4096, .f32⟩
  | .hbm, ⟨41, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Steps.lean ====
/-
  The kernel's body as a program over steps.

  The printed body is one long straight line: four partial products, each over eight heads, with the copies of the
  keys and values of the next one started before it. Here each kind of step is written once, at a chunk `t` and a
  head `h`, and the body is put together from them. That the printed body is this program is `body_eq` (BodyEq.lean).
-/
module

public import proofs.«01_k».proof.Proof.Gen.KernelIdeal
public import proofs.«01_k».proof.Proof.Gen.KernelIdeal.Skeleton

@[expose] public section

set_option maxRecDepth 65536

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

/-- Programs of this kernel's body. -/
abbrev P (F : FTy → Type) (α : Type) : Type 1 := Prog (TpuEff nD τ sig (Elt F) Λ₀ .tc) α

/-! ## The buffers -/

/-- The four chunks of activations. -/
abbrev xW : Memref sig .tc .vmem S4x256x1024 .f32 := Memref.whole cc0_stg0_0
/-- This device's query weights. -/
abbrev wqW : Memref sig .tc .vmem S1024x1024 .f32 := Memref.whole cc0_stg1_0
/-- This device's output weights. -/
abbrev woW : Memref sig .tc .vmem S1024x1024 .f32 := Memref.whole cc0_stg2_0
/-- The result, chunk by chunk. -/
abbrev oW : Memref sig .tc .vmem S4x256x1024 .f32 := Memref.whole cc0_stg3_0
/-- This device's keys. -/
abbrev kW : Memref sig .tc .hbm S4x1024x8x128 .f32 := Memref.whole main_arg2
/-- This device's values. -/
abbrev vW : Memref sig .tc .hbm S4x1024x8x128 .f32 := Memref.whole main_arg3
/-- The two places for a partial product. -/
abbrev pW : Memref sig .tc .vmem S2x256x1024 .f32 := Memref.whole cc0_scratch0
/-- The three landing places of the other devices' partial products. -/
abbrev rW : Memref sig .tc .vmem S1x3x256x1024 .f32 := Memref.whole cc0_scratch1
/-- The heads' outputs side by side. -/
abbrev aW : Memref sig .tc .vmem S256x1024 .f32 := Memref.whole cc0_scratch2
/-- The keys copied in, two chunks of eight heads. -/
abbrev kbW : Memref sig .tc .vmem S2x8x1x1024x128 .f32 := Memref.whole cc0_scratch3
/-- The values copied in, two chunks of eight heads. -/
abbrev vbW : Memref sig .tc .vmem S2x8x1x1024x128 .f32 := Memref.whole cc0_scratch4

/-! ## Where each step looks -/

/-- The place of two that chunk `t` uses. -/
abbrev slot (t : Fin 4) : ℕ := t.val % 2

/-- The offset of head `h`'s keys for the chunk reached after `t` steps. -/
def koff (d : Dev nD) (t : Fin 4) (h : Fin 8) : Fin 4 → ℕ :=
  match h with
  | 0 => k0_off1 d (BitVec.ofNat 32 t.val)
  | 1 => k0_off2 d (BitVec.ofNat 32 t.val)
  | 2 => k0_off3 d (BitVec.ofNat 32 t.val)
  | 3 => k0_off4 d (BitVec.ofNat 32 t.val)
  | 4 => k0_off5 d (BitVec.ofNat 32 t.val)
  | 5 => k0_off6 d (BitVec.ofNat 32 t.val)
  | 6 => k0_off7 d (BitVec.ofNat 32 t.val)
  | 7 => k0_off8 d (BitVec.ofNat 32 t.val)

theorem koff_eq (d : Dev nD) (t : Fin 4) (h : Fin 8) : koff d t h = ![((d.val + 4) - t.val) % 4, 0, h.val, 0] := by
  fin_cases h
  exacts [k0_off1_eq d t, k0_off2_eq d t, k0_off3_eq d t, k0_off4_eq d t, k0_off5_eq d t, k0_off6_eq d t, k0_off7_eq d t,
    k0_off8_eq d t]

theorem koff_inb (d : Dev nD) (t : Fin 4) (h : Fin 8) : ∀ a, koff d t h a + S1x1024x1x128.size a ≤ S4x1024x8x128.size a := by
  rw [koff_eq]; revert d t h; decide +kernel

theorem bufInb (t : Fin 4) (h : Fin 8) :
    ∀ a, (![slot t, h.val, 0, 0, 0] : Fin 5 → ℕ) a + S1x1x1x1024x128.size a ≤ S2x8x1x1024x128.size a := by
  revert t h; decide +kernel

theorem sem2Inb (t : Fin 4) : ∀ a, (![slot t] : Fin 1 → ℕ) a + S1.size a ≤ S2.size a := by revert t; decide
theorem sem3Inb (r : Fin 3) : ∀ a, (![r.val] : Fin 1 → ℕ) a + S1.size a ≤ S3.size a := by revert r; decide
theorem sem4Inb (r : Fin 4) : ∀ a, (![r.val] : Fin 1 → ℕ) a + S1.size a ≤ S4.size a := by revert r; decide
theorem partInb (t : Fin 4) : ∀ a, (![slot t, 0, 0] : Fin 3 → ℕ) a + S1x256x1024.size a ≤ S2x256x1024.size a := by
  revert t; decide
theorem landInb (r : Fin 3) : ∀ a, (![0, r.val, 0, 0] : Fin 4 → ℕ) a + S1x1x256x1024.size a ≤ S1x3x256x1024.size a := by
  revert r; decide
theorem colInb (h : Fin 8) : ∀ a, (![0, 128 * h.val] : Fin 2 → ℕ) a + S256x128.size a ≤ S256x1024.size a := by
  revert h; decide
theorem colSlices (h : Fin 8) : S256x1024.Slices ![0, 128 * h.val] S256x128 := by revert h; decide

/-- Head `h`'s keys (or values) for chunk `t`, in the device's cache. -/
abbrev kvSrc (w : Memref sig .tc .hbm S4x1024x8x128 .f32) (d : Dev nD) (t : Fin 4) (h : Fin 8) :
    Memref sig .tc .hbm S1x1024x128 .f32 :=
  (w.slice (Rect.unit (s := S4x1024x8x128) (koff d t h) S1x1024x1x128.size (koff_inb d t h)) (fun _ => rfl)).squeeze
    S1x1024x128 squeezes_S1x1024x1x128_S1x1024x128

/-- Where the keys (or values) of head `h` and chunk `t` land. -/
abbrev kvDst (w : Memref sig .tc .vmem S2x8x1x1024x128 .f32) (t : Fin 4) (h : Fin 8) :
    Memref sig .tc .vmem S1x1024x128 .f32 :=
  (w.slice (Rect.unit (s := S2x8x1x1024x128) ![slot t, h.val, 0, 0, 0] S1x1x1x1024x128.size (bufInb t h)) (fun _ => rfl)).squeeze
    S1x1024x128 squeezes_S1x1x1x1024x128_S1x1024x128

/-- The semaphore of chunk `t`'s copies, out of two. -/
abbrev sem2 (a : DmaSems sig S2) (t : Fin 4) : DmaSem sig :=
  ((a.slice (Rect.unit (s := S2) ![slot t] S1.size (sem2Inb t))).squeeze S_ squeezes_S1_S_).sem
/-- The semaphore of exchange `r`, out of three. -/
abbrev sem3 (a : DmaSems sig S3) (r : Fin 3) : DmaSem sig :=
  ((a.slice (Rect.unit (s := S3) ![r.val] S1.size (sem3Inb r))).squeeze S_ squeezes_S1_S_).sem
/-- The semaphore of exchange `r`, out of four. -/
abbrev sem4 (a : DmaSems sig S4) (r : Fin 4) : DmaSem sig :=
  ((a.slice (Rect.unit (s := S4) ![r.val] S1.size (sem4Inb r))).squeeze S_ squeezes_S1_S_).sem

/-- The place of the partial product of chunk `t`. -/
abbrev partM (t : Fin 4) : Memref sig .tc .vmem S256x1024 .f32 :=
  (pW.slice (Rect.unit (s := S2x256x1024) ![slot t, 0, 0] S1x256x1024.size (partInb t)) (fun _ => rfl)).squeeze
    S256x1024 squeezes_S1x256x1024_S256x1024
/-- The landing place of exchange `r`. -/
abbrev landM (r : Fin 3) : Memref sig .tc .vmem S256x1024 .f32 :=
  (rW.slice (Rect.unit (s := S1x3x256x1024) ![0, r.val, 0, 0] S1x1x256x1024.size (landInb r)) (fun _ => rfl)).squeeze
    S256x1024 squeezes_S1x1x256x1024_S256x1024

/-- The device the partial product of chunk `r` goes to. -/
def rsDev (d : Dev nD) (r : Fin 3) : Dev nD :=
  match r with
  | 0 => ⟨k0_dev4 d, k0_dev4_lt d⟩
  | 1 => ⟨k0_dev5 d, k0_dev5_lt d⟩
  | 2 => ⟨k0_dev6 d, k0_dev6_lt d⟩

/-! ## The payloads -/

/-- One head's output: the scores of its queries against its keys, their exponentials, the values weighted by
    them, divided by the exponentials' sum. -/
def headPay (h : Fin 8) (q : FVec F S256x1024 .f32) (k v : Vec F S1x1x1x1024x128 .f32) : FVec F S256x128 .f32 :=
  have e : FVec F S256x1024 .f32 := exp (mulf
    (matmul dot_S256x128_S1024x128_S256x1024_1_1_0_0_n_n none
      (extractStridedSlice S256x128 ![0, 128 * h.val] q (colSlices h) : FVec F S256x128 .f32)
      (shapeCast S1024x128 k shapeCasts_S1x1x1x1024x128_S1024x128 : FVec F S1024x128 .f32)
      (constant S256x1024 .f32 0x00000000#32))
    (broadcast S256x1024 (Scalar.ofBits .f32 0x3DB504F3#32)))
  shapeCast S256x128 (divf
    (matmul dot_S256x1024_S1024x128_S256x128_1_0_0_1_n_n none e
      (shapeCast S1024x128 v shapeCasts_S1x1x1x1024x128_S1024x128 : FVec F S1024x128 .f32)
      (constant S256x128 .f32 0x00000000#32))
    (broadcastTo S256x128 (shapeCast S256x1
      (multiReduction .add [1] S256 e 0x00000000#32 reduces_S256x1024_S256 (.inl rfl) rfl : FVec F S256 .f32)
      shapeCasts_S256_S256x1 : FVec F S256x1 .f32) broadcasts_S256x1_S256x128)) shapeCasts_S256x128_S256x128

/-! ## The steps -/

/-- `f 0; f 1; …; f (n - 1)`. -/
def upTo (f : ℕ → P F PUnit) : ℕ → P F PUnit
  | 0 => pure ⟨⟩
  | n + 1 => upTo f n >>= fun _ => f n

/-- Start the copies of head `h`'s keys and of its values for chunk `t`. -/
def issueKV (d : Dev nD) (t : Fin 4) (h : Fin 8) : P F PUnit := do
  Prog.lift (.enqueueDma (kvSrc kW d t h) (.here (kvDst kbW t h)) (.dma (sem2 cc0_scratch5 t))
    ((View.wordExact_bits rfl).reshape _ _) ((View.wordExact_bits rfl).reshape _ _) ⟨Or.inl rfl, trivial⟩)
  Prog.lift (.enqueueDma (kvSrc vW d t h) (.here (kvDst vbW t h)) (.dma (sem2 cc0_scratch6 t))
    ((View.wordExact_bits rfl).reshape _ _) ((View.wordExact_bits rfl).reshape _ _) ⟨Or.inl rfl, trivial⟩)

/-- Wait for one copy of keys and one of values for chunk `t`. -/
def awaitKV (d : Dev nD) (t : Fin 4) (h : Fin 8) : P F PUnit := do
  Prog.lift (.waitDma2 (sem2 cc0_scratch5 t) (kvSrc kW d t h) (kvDst kbW t h)
    ((View.wordExact_bits rfl).reshape _ _) ((View.wordExact_bits rfl).reshape _ _))
  Prog.lift (.waitDma2 (sem2 cc0_scratch6 t) (kvSrc vW d t h) (kvDst vbW t h)
    ((View.wordExact_bits rfl).reshape _ _) ((View.wordExact_bits rfl).reshape _ _))

/-- The queries of the chunk reached after `t` steps. -/
def queries (d : Dev nD) (t : Fin 4) : P F (FVec F S256x1024 .f32) := do
  let x : Vec F S1x256x1024 .f32 ← Prog.lift (.load xW (Rect.unit (s := S4x256x1024) (k0_off9 d (BitVec.ofNat 32 t.val))
    S1x256x1024.size (k0_off9_inb d t)).toLoadRect (View.loadsAt_vmem h_S1x256x1024))
  let w : Vec F S1024x1024 .f32 ← Prog.lift (.load wqW (Rect.unit (s := S1024x1024) ![0, 0] S1024x1024.size
    inb_S1024x1024_S1024x1024_0_0).toLoadRect (View.loadsAt_vmem h_S1024x1024))
  pure (k0_pay1 x w)

/-- Head `h` of chunk `t`: its output goes to its columns. -/
def head (t : Fin 4) (q : FVec F S256x1024 .f32) (h : Fin 8) : P F PUnit := do
  let k : Vec F S1x1x1x1024x128 .f32 ← Prog.lift (.load kbW (Rect.unit (s := S2x8x1x1024x128) ![slot t, h.val, 0, 0, 0]
    S1x1x1x1024x128.size (bufInb t h)).toLoadRect (View.loadsAt_vmem h_S1x1x1x1024x128))
  let v : Vec F S1x1x1x1024x128 .f32 ← Prog.lift (.load vbW (Rect.unit (s := S2x8x1x1024x128) ![slot t, h.val, 0, 0, 0]
    S1x1x1x1024x128.size (bufInb t h)).toLoadRect (View.loadsAt_vmem h_S1x1x1x1024x128))
  let _ : Vec F S256x128 .f32 ← Prog.lift (.load aW (Rect.unit (s := S256x1024) ![0, 128 * h.val] S256x128.size
    (colInb h)).toLoadRect (View.loadsAt_vmem h_S256x128))
  Prog.lift (.store aW (Rect.unit (s := S256x1024) ![0, 128 * h.val] S256x128.size (colInb h)) (headPay h q k v)
    Finset.univ (View.stores_vmem_bits_univ h_S256x128 rfl) (.inl rfl))

/-- The partial product of chunk `t` goes to its place. -/
def project (t : Fin 4) : P F PUnit := do
  let a : Vec F S256x1024 .f32 ← Prog.lift (.load aW (Rect.unit (s := S256x1024) ![0, 0] S256x1024.size
    inb_S256x1024_S256x1024_0_0).toLoadRect (View.loadsAt_vmem h_S256x1024))
  let w : Vec F S1024x1024 .f32 ← Prog.lift (.load woW (Rect.unit (s := S1024x1024) ![0, 0] S1024x1024.size
    inb_S1024x1024_S1024x1024_0_0).toLoadRect (View.loadsAt_vmem h_S1024x1024))
  let _ : Vec F S1x256x1024 .f32 ← Prog.lift (.load pW (Rect.unit (s := S2x256x1024) ![slot t, 0, 0] S1x256x1024.size
    (partInb t)).toLoadRect (View.loadsAt_vmem h_S1x256x1024))
  Prog.lift (.store pW (Rect.unit (s := S2x256x1024) ![slot t, 0, 0] S1x256x1024.size (partInb t)) (k0_pay16 a w)
    Finset.univ (View.stores_vmem_bits_univ h_S1x256x1024 rfl) (.inl rfl))

/-- Start the copies of all heads for chunk `t`. -/
def startKV (d : Dev nD) (t : Fin 4) : P F PUnit := upTo (fun h => issueKV d t (Fin.ofNat 8 h)) 8

/-- The partial product of chunk `t`, its keys and values under way before. -/
def compute (d : Dev nD) (t : Fin 4) : P F PUnit := do
  let q ← queries d t
  upTo (fun h => awaitKV d t (Fin.ofNat 8 h)) 8
  upTo (fun h => head t q (Fin.ofNat 8 h)) 8
  project t

/-- Chunk `r` of three goes as it is to the device whose share of the sum it belongs to. -/
def rsSend (d : Dev nD) (r : Fin 3) : P F PUnit :=
  Prog.lift (.enqueueDma (partM r.castSucc) (.remote (Dev.tc (rsDev d r)) (landM r) (.dma (sem3 cc0_scratch7 r)))
    (.dma (sem3 cc0_scratch8 r)) ((View.wordExact_bits rfl).reshape _ _) ((View.wordExact_bits rfl).reshape _ _)
    ⟨⟨rfl, Or.inl rfl⟩, trivial⟩)

/-- Wait until partial product `r` has been read off. -/
def rsWaitSend (r : Fin 3) : P F PUnit :=
  Prog.lift (.waitDma2 (sem3 cc0_scratch7 r) (landM r) (partM r.castSucc)
    ((View.wordExact_bits rfl).reshape _ _) ((View.wordExact_bits rfl).reshape _ _))

/-- Wait until the partial product of exchange `r` has landed. -/
def rsWaitRecv (r : Fin 3) : P F PUnit :=
  Prog.lift (.waitDma2 (sem3 cc0_scratch8 r) (landM r) (landM r)
    ((View.wordExact_bits rfl).reshape _ _) ((View.wordExact_bits rfl).reshape _ _))

/-- The barrier's semaphore. -/
abbrev barS : Sems sig S_ := SemArray.scalar (sig.barrier 0 rfl)

/-- Greet the three other devices and wait for their greetings. -/
def greet (d : Dev nD) : P F PUnit := do
  semSignalWord (⟨k0_dev1 d, k0_dev1_lt d⟩ : Dev nD) barS.sem 1#32
  semSignalWord (⟨k0_dev2 d, k0_dev2_lt d⟩ : Dev nD) barS.sem 1#32
  semSignalWord (⟨k0_dev3 d, k0_dev3_lt d⟩ : Dev nD) barS.sem 1#32
  semWaitWord barS.sem 3#32

/-- The four partial products of the device's own share are added up. -/
def total (d : Dev nD) : P F PUnit := do
  let p : Vec F S1x256x1024 .f32 ← Prog.lift (.load pW (Rect.unit (s := S2x256x1024) ![1, 0, 0] S1x256x1024.size
    inb_S2x256x1024_S1x256x1024_1_0_0).toLoadRect (View.loadsAt_vmem h_S1x256x1024))
  let r0 : Vec F S1x1x256x1024 .f32 ← Prog.lift (.load rW (Rect.unit (s := S1x3x256x1024) ![0, 0, 0, 0] S1x1x256x1024.size
    inb_S1x3x256x1024_S1x1x256x1024_0_0_0_0).toLoadRect (View.loadsAt_vmem h_S1x1x256x1024))
  let r1 : Vec F S1x1x256x1024 .f32 ← Prog.lift (.load rW (Rect.unit (s := S1x3x256x1024) ![0, 1, 0, 0] S1x1x256x1024.size
    inb_S1x3x256x1024_S1x1x256x1024_0_1_0_0).toLoadRect (View.loadsAt_vmem h_S1x1x256x1024))
  let r2 : Vec F S1x1x256x1024 .f32 ← Prog.lift (.load rW (Rect.unit (s := S1x3x256x1024) ![0, 2, 0, 0] S1x1x256x1024.size
    inb_S1x3x256x1024_S1x1x256x1024_0_2_0_0).toLoadRect (View.loadsAt_vmem h_S1x1x256x1024))
  let _ : Vec F S1x256x1024 .f32 ← Prog.lift (.load oW (Rect.unit (s := S4x256x1024) (k0_off10 d) S1x256x1024.size
    (k0_off10_inb d)).toLoadRect (View.loadsAt_vmem h_S1x256x1024))
  Prog.lift (.store oW (Rect.unit (s := S4x256x1024) (k0_off10 d) S1x256x1024.size (k0_off10_inb d)) (k0_pay74 p r0 r1 r2)
    Finset.univ (View.stores_vmem_bits_univ h_S1x256x1024 rfl) (.inl rfl))

/-! The gathering of the four sums: a device's own goes to both neighbours; of those that arrive from them, one half each
    goes on to the device opposite. -/

/-- The chunk this device added up. -/
abbrev ownM (d : Dev nD) : Memref sig .tc .vmem S1x256x1024 .f32 :=
  oW.slice (Rect.unit (s := S4x256x1024) (k0_off11 d 1#32) S1x256x1024.size (k0_off11_inb d 0)) (fun _ => rfl)
/-- The chunk the device before added up. -/
abbrev prevM (d : Dev nD) : Memref sig .tc .vmem S1x256x1024 .f32 :=
  oW.slice (Rect.unit (s := S4x256x1024) (k0_off12 d) S1x256x1024.size (k0_off12_inb d)) (fun _ => rfl)
/-- Its upper half. -/
abbrev prevTopM (d : Dev nD) : Memref sig .tc .vmem S1x128x1024 .f32 :=
  oW.slice (Rect.unit (s := S4x256x1024) (k0_off13 d) S1x128x1024.size (k0_off13_inb d)) (fun _ => rfl)
/-- The chunk the device after added up. -/
abbrev nextM (d : Dev nD) : Memref sig .tc .vmem S1x256x1024 .f32 :=
  oW.slice (Rect.unit (s := S4x256x1024) (k0_off11 d 2#32) S1x256x1024.size (k0_off11_inb d 1)) (fun _ => rfl)
/-- Its lower half. -/
abbrev nextLowM (d : Dev nD) : Memref sig .tc .vmem S1x128x1024 .f32 :=
  oW.slice (Rect.unit (s := S4x256x1024) (k0_off14 d 2#32) S1x128x1024.size (k0_off14_inb d 0)) (fun _ => rfl)
/-- The upper half of the chunk the device opposite added up. -/
abbrev oppTopM (d : Dev nD) : Memref sig .tc .vmem S1x128x1024 .f32 :=
  oW.slice (Rect.unit (s := S4x256x1024) (k0_off15 d) S1x128x1024.size (k0_off15_inb d)) (fun _ => rfl)
/-- Its lower half. -/
abbrev oppLowM (d : Dev nD) : Memref sig .tc .vmem S1x128x1024 .f32 :=
  oW.slice (Rect.unit (s := S4x256x1024) (k0_off14 d 3#32) S1x128x1024.size (k0_off14_inb d 1)) (fun _ => rfl)

/-- Send the window `m` of the result to device `e`, exchange `r`. -/
def agSend {s : Shape} (m : Memref sig .tc .vmem s .f32) (hm : m.view.WordExact) (e : Dev nD) (r : Fin 4) : P F PUnit :=
  Prog.lift (.enqueueDma m (.remote (Dev.tc e) m (.dma (sem4 cc0_scratch9 r))) (.dma (sem4 cc0_scratch10 r))
    hm hm ⟨⟨rfl, Or.inl rfl⟩, trivial⟩)

/-- Wait on semaphore `a r` for the window `m` of the result. -/
def agWait {s : Shape} (m : Memref sig .tc .vmem s .f32) (hm : m.view.WordExact) (a : DmaSems sig S4) (r : Fin 4) : P F PUnit :=
  Prog.lift (.waitDma2 (sem4 a r) m m hm hm)

def gather (d : Dev nD) : P F PUnit := do
  agSend (ownM d) (View.wordExact_bits rfl) ⟨k0_dev7 d, k0_dev7_lt d⟩ 0
  agSend (ownM d) (View.wordExact_bits rfl) ⟨k0_dev8 d, k0_dev8_lt d⟩ 1
  agWait (prevM d) (View.wordExact_bits rfl) cc0_scratch10 0
  agSend (prevTopM d) (View.wordExact_bits rfl) ⟨k0_dev9 d, k0_dev9_lt d⟩ 2
  agWait (nextM d) (View.wordExact_bits rfl) cc0_scratch10 1
  agSend (nextLowM d) (View.wordExact_bits rfl) ⟨k0_dev10 d, k0_dev10_lt d⟩ 3
  agWait (oppTopM d) (View.wordExact_bits rfl) cc0_scratch10 2
  agWait (oppLowM d) (View.wordExact_bits rfl) cc0_scratch10 3

/-- Wait until everything still being read off has been. -/
def drain (d : Dev nD) : P F PUnit := do
  rsWaitSend 2
  agWait (ownM d) (View.wordExact_bits rfl) cc0_scratch9 0
  agWait (ownM d) (View.wordExact_bits rfl) cc0_scratch9 1
  agWait (prevTopM d) (View.wordExact_bits rfl) cc0_scratch9 2
  agWait (nextLowM d) (View.wordExact_bits rfl) cc0_scratch9 3

/-- The whole body. -/
def steps : P F PUnit := do
  let d : Dev nD ← Prog.lift .deviceId
  greet d
  startKV d 0
  startKV d 1
  compute d 0
  rsSend d 0
  startKV d 2
  compute d 1
  rsSend d 1
  startKV d 3
  rsWaitSend 0
  compute d 2
  rsSend d 2
  rsWaitSend 1
  compute d 3
  rsWaitRecv 0
  rsWaitRecv 1
  rsWaitRecv 2
  total d
  gather d
  drain d

end Cert.KernelIdeal.Body
-- ==== Proof.Contents.lean ====
/-
  What the buffers hold while the kernel runs, as functions of the five arguments on the four devices.
-/
module

public import proofs.«01_k».proof.Proof.Steps
public import Idealize.ShloMosaic.Lib.ValueIdxCore

@[expose] public section

set_option maxRecDepth 16384

noncomputable section

namespace Cert.KernelIdeal.Body

open Cert.KernelIdeal Cert.KernelIdeal.Gen
open Idealize.ShloMosaic Idealize.ShloMosaic.TcCoe
open Idealize.ShloMosaic.ValueIdx

variable {F : FTy → Type} [FloatOps F]

/-- The device `k` places further round the ring of four. -/
def turn (k : ℕ) (c : Dev nD) : Dev nD := ⟨(c.val + k) % 4, Nat.mod_lt _ (by decide)⟩

theorem turn_val (k : ℕ) (c : Dev nD) : (turn k c).val = (c.val + k) % 4 := rfl

theorem turn_turn (j k : ℕ) (c : Dev nD) : turn j (turn k c) = turn (k + j) c :=
  Fin.ext (by simp only [turn_val]; omega)

theorem turn_four (c : Dev nD) : turn 4 c = c := by revert c; decide

/-- The blocks of the arguments, device by device. -/
structure Ins (F : FTy → Type) where
  x : Dev nD → Vec F S4x256x1024 .f32
  wq : Dev nD → Vec F S1024x1024 .f32
  k : Dev nD → Vec F S4x1024x8x128 .f32
  v : Dev nD → Vec F S4x1024x8x128 .f32
  wo : Dev nD → Vec F S1024x1024 .f32

variable (I : Ins F)

/-- The chunk of the batch that device `c` works on after `t` steps. -/
def chunk (c : Dev nD) (t : Fin 4) : Fin 4 := ⟨((c.val + 4) - t.val) % 4, Nat.mod_lt _ (by decide)⟩

/-- A chunk's queries, all eight heads side by side. -/
def qv (c : Dev nD) (t : Fin 4) : FVec F S256x1024 .f32 :=
  k0_pay1 (fun i => I.x c (ix3 (chunk c t) (i 1) (i 2))) (I.wq c)

/-- The contents of the buffer of keys (of values) within chunk `t`'s half of it: whatever the place, head `i 1`. -/
def kvAt (a : Vec F S4x1024x8x128 .f32) (c : Dev nD) (t : Fin 4) : Vec F S2x8x1x1024x128 .f32 :=
  fun i => a (ix4 (chunk c t) (i 3) (i 1) (i 4))

/-- One head's keys (values) of chunk `t`. -/
def kvSlab (a : Vec F S4x1024x8x128 .f32) (c : Dev nD) (t : Fin 4) (h : Fin 8) : Vec F S1x1x1x1024x128 .f32 :=
  fun i => a (ix4 (chunk c t) (i 3) h (i 4))

/-- The head a column belongs to. -/
def headOf (j : Fin 1024) : Fin 8 := ⟨j.val / 128, by omega⟩
/-- The column's place within its head. -/
def within (j : Fin 1024) : Fin 128 := ⟨j.val % 128, Nat.mod_lt _ (by decide)⟩

/-- The eight heads' outputs for chunk `t`, side by side. -/
def attnAt (c : Dev nD) (t : Fin 4) : Vec F S256x1024 .f32 := fun i =>
  headPay (headOf (i 1)) (qv I c t) (kvSlab (I.k c) c t (headOf (i 1))) (kvSlab (I.v c) c t (headOf (i 1)))
    (ix2 (i 0) (within (i 1)))

/-- Device `c`'s partial product for the chunk of step `t`. -/
def part (c : Dev nD) (t : Fin 4) : Vec F S1x256x1024 .f32 := k0_pay16 (attnAt I c t) (I.wo c)

/-- The partial product that exchange `r` brings to device `c`: the one that the device `r + 1` places further computed
    in its step `r`. -/
def landed (c : Dev nD) (r : Fin 3) : Vec F S1x256x1024 .f32 := part I (turn (r.val + 1) c) r.castSucc

/-- The sum of the four partial products on device `c`, for the chunk after its own. -/
def tot (c : Dev nD) : Vec F S1x256x1024 .f32 :=
  k0_pay74 (part I c 3) (fun i => landed I c 0 (ix3 (i 1) (i 2) (i 3))) (fun i => landed I c 1 (ix3 (i 1) (i 2) (i 3)))
    (fun i => landed I c 2 (ix3 (i 1) (i 2) (i 3)))

/-- The result, the same on every device: chunk `j` is the sum made on the device before it. -/
def fin : Vec F S4x256x1024 .f32 := fun i => tot I (turn 3 (i 0)) (ix3 0 (i 1) (i 2))

/-- The partial products' buffer within chunk `t`'s half. -/
def partAt (c : Dev nD) (t : Fin 4) : Vec F S2x256x1024 .f32 := fun i => part I c t (ix3 0 (i 1) (i 2))

/-- The landing buffer when everything has landed. -/
def landAt (c : Dev nD) : Vec F S1x3x256x1024 .f32 := fun i => landed I c (i 1) (ix3 0 (i 2) (i 3))

end Cert.KernelIdeal.Body
-- ==== Proof.Windows.lean ====
/-
  The windows of the buffers: which elements each one has, and what reading or writing it does to the contents.
-/
module

public import proofs.«01_k».proof.Proof.Contents

@[expose] public section

set_option maxRecDepth 16384

noncomputable section

namespace Cert.KernelIdeal.Body

open Cert.KernelIdeal Cert.KernelIdeal.Gen
open Idealize.ShloMosaic Idealize.ShloMosaic.TcCoe
open Idealize.ShloMosaic.ValueIdx

variable {F : FTy → Type} [FloatOps F]

/-! ## Which elements -/

theorem mem_kSrc (c : Dev nD) (t : Fin 4) (h : Fin 8) (i : S4x1024x8x128.Idx) :
    i ∈ (kvSrc kW c t h).view.set ↔ i 0 = chunk c t ∧ i 2 = h := by
  have hs : (kvSrc kW c t h).view.set = (Rect.unit (s := S4x1024x8x128) (koff c t h) S1x1024x1x128.size (koff_inb c t h)).set :=
    (View.set_reshape _ _).trans (View.set_slice_whole _ _)
  rw [hs, Rect.mem_set_unit, koff_eq]
  have h1 : (i 1).val < 1024 := (i 1).isLt
  have h3 : (i 3).val < 128 := (i 3).isLt
  refine ⟨fun H => ⟨Fin.ext ?_, Fin.ext ?_⟩, fun ⟨e0, e2⟩ a => ?_⟩
  · have H0 := H (0 : Fin 4); change _ ≤ (i 0).val ∧ (i 0).val < ((c.val + 4) - t.val) % 4 + 1 at H0
    have := H0.1; change ((c.val + 4) - t.val) % 4 ≤ _ at this
    show (i 0).val = ((c.val + 4) - t.val) % 4; omega
  · have H2 := H (2 : Fin 4); change h.val ≤ (i 2).val ∧ (i 2).val < h.val + 1 at H2; omega
  · have e0' : (i 0).val = ((c.val + 4) - t.val) % 4 := congrArg Fin.val e0
    have e2' : (i 2).val = h.val := congrArg Fin.val e2
    match a with
    | ⟨0, _⟩ => show ((c.val + 4) - t.val) % 4 ≤ (i 0).val ∧ (i 0).val < ((c.val + 4) - t.val) % 4 + 1; omega
    | ⟨1, _⟩ => show 0 ≤ (i 1).val ∧ (i 1).val < 0 + 1024; omega
    | ⟨2, _⟩ => show h.val ≤ (i 2).val ∧ (i 2).val < h.val + 1; omega
    | ⟨3, _⟩ => show 0 ≤ (i 3).val ∧ (i 3).val < 0 + 128; omega

theorem vSrc_set (c : Dev nD) (t : Fin 4) (h : Fin 8) : (kvSrc vW c t h).view.set = (kvSrc kW c t h).view.set := by
  have hv : (kvSrc vW c t h).view.set = (Rect.unit (s := S4x1024x8x128) (koff c t h) S1x1024x1x128.size (koff_inb c t h)).set :=
    (View.set_reshape _ _).trans (View.set_slice_whole _ _)
  have hk : (kvSrc kW c t h).view.set = (Rect.unit (s := S4x1024x8x128) (koff c t h) S1x1024x1x128.size (koff_inb c t h)).set :=
    (View.set_reshape _ _).trans (View.set_slice_whole _ _)
  exact hv.trans hk.symm

theorem mem_kDst (t : Fin 4) (h : Fin 8) (i : S2x8x1x1024x128.Idx) :
    i ∈ (kvDst kbW t h).view.set ↔ (i 0).val = slot t ∧ i 1 = h := by
  have hs : (kvDst kbW t h).view.set = (Rect.unit (s := S2x8x1x1024x128) ![slot t, h.val, 0, 0, 0] S1x1x1x1024x128.size (bufInb t h)).set :=
    (View.set_reshape _ _).trans (View.set_slice_whole _ _)
  rw [hs, Rect.mem_set_unit]
  have h2 : (i 2).val < 1 := (i 2).isLt
  have h3 : (i 3).val < 1024 := (i 3).isLt
  have h4 : (i 4).val < 128 := (i 4).isLt
  refine ⟨fun H => ⟨?_, Fin.ext ?_⟩, fun ⟨e0, e1⟩ a => ?_⟩
  · have H0 := H (0 : Fin 5); change slot t ≤ (i 0).val ∧ (i 0).val < slot t + 1 at H0; omega
  · have H1 := H (1 : Fin 5); change h.val ≤ (i 1).val ∧ (i 1).val < h.val + 1 at H1; omega
  · have e1' : (i 1).val = h.val := congrArg Fin.val e1
    match a with
    | ⟨0, _⟩ => show slot t ≤ (i 0).val ∧ (i 0).val < slot t + 1; omega
    | ⟨1, _⟩ => show h.val ≤ (i 1).val ∧ (i 1).val < h.val + 1; omega
    | ⟨2, _⟩ => show 0 ≤ (i 2).val ∧ (i 2).val < 0 + 1; omega
    | ⟨3, _⟩ => show 0 ≤ (i 3).val ∧ (i 3).val < 0 + 1024; omega
    | ⟨4, _⟩ => show 0 ≤ (i 4).val ∧ (i 4).val < 0 + 128; omega

theorem vDst_set (t : Fin 4) (h : Fin 8) : (kvDst vbW t h).view.set = (kvDst kbW t h).view.set := by
  have hv : (kvDst vbW t h).view.set = (Rect.unit (s := S2x8x1x1024x128) ![slot t, h.val, 0, 0, 0] S1x1x1x1024x128.size (bufInb t h)).set :=
    (View.set_reshape _ _).trans (View.set_slice_whole _ _)
  have hk : (kvDst kbW t h).view.set = (Rect.unit (s := S2x8x1x1024x128) ![slot t, h.val, 0, 0, 0] S1x1x1x1024x128.size (bufInb t h)).set :=
    (View.set_reshape _ _).trans (View.set_slice_whole _ _)
  exact hv.trans hk.symm

theorem mem_part (t : Fin 4) (i : S2x256x1024.Idx) : i ∈ (partM t).view.set ↔ (i 0).val = slot t := by
  have hs : (partM t).view.set = (Rect.unit (s := S2x256x1024) ![slot t, 0, 0] S1x256x1024.size (partInb t)).set :=
    (View.set_reshape _ _).trans (View.set_slice_whole _ _)
  rw [hs, Rect.mem_set_unit]
  have h1 : (i 1).val < 256 := (i 1).isLt
  have h2 : (i 2).val < 1024 := (i 2).isLt
  refine ⟨fun H => ?_, fun e0 a => ?_⟩
  · have H0 := H (0 : Fin 3); change slot t ≤ (i 0).val ∧ (i 0).val < slot t + 1 at H0; omega
  · match a with
    | ⟨0, _⟩ => show slot t ≤ (i 0).val ∧ (i 0).val < slot t + 1; omega
    | ⟨1, _⟩ => show 0 ≤ (i 1).val ∧ (i 1).val < 0 + 256; omega
    | ⟨2, _⟩ => show 0 ≤ (i 2).val ∧ (i 2).val < 0 + 1024; omega

theorem mem_land (r : Fin 3) (i : S1x3x256x1024.Idx) : i ∈ (landM r).view.set ↔ i 1 = r := by
  have hs : (landM r).view.set = (Rect.unit (s := S1x3x256x1024) ![0, r.val, 0, 0] S1x1x256x1024.size (landInb r)).set :=
    (View.set_reshape _ _).trans (View.set_slice_whole _ _)
  rw [hs, Rect.mem_set_unit]
  have h0 : (i 0).val < 1 := (i 0).isLt
  have h2 : (i 2).val < 256 := (i 2).isLt
  have h3 : (i 3).val < 1024 := (i 3).isLt
  refine ⟨fun H => Fin.ext ?_, fun e a => ?_⟩
  · have H1 := H (1 : Fin 4); change r.val ≤ (i 1).val ∧ (i 1).val < r.val + 1 at H1; omega
  · have e1 : (i 1).val = r.val := congrArg Fin.val e
    match a with
    | ⟨0, _⟩ => show 0 ≤ (i 0).val ∧ (i 0).val < 0 + 1; omega
    | ⟨1, _⟩ => show r.val ≤ (i 1).val ∧ (i 1).val < r.val + 1; omega
    | ⟨2, _⟩ => show 0 ≤ (i 2).val ∧ (i 2).val < 0 + 256; omega
    | ⟨3, _⟩ => show 0 ≤ (i 3).val ∧ (i 3).val < 0 + 1024; omega

/-- A window of the result of `n` rows from row `o` on in chunk `b`. -/
theorem mem_rows {off : Fin 3 → ℕ} {n : ℕ} (b o : ℕ) (he : off = ![b, o, 0])
    (inb : ∀ a, off a + (⟨3, ![1, n, 1024]⟩ : Shape).size a ≤ S4x256x1024.size a) (i : S4x256x1024.Idx) :
    i ∈ (View.slice (View.whole cc0_stg3_0) (Rect.unit (s := S4x256x1024) off (⟨3, ![1, n, 1024]⟩ : Shape).size inb)).set
      ↔ (i 0).val = b ∧ o ≤ (i 1).val ∧ (i 1).val < o + n := by
  subst he
  rw [View.set_slice_whole, Rect.mem_set_unit]
  have h2 : (i 2).val < 1024 := (i 2).isLt
  refine ⟨fun H => ?_, fun e a => ?_⟩
  · have H0 := H (0 : Fin 3); change b ≤ (i 0).val ∧ (i 0).val < b + 1 at H0
    have H1 := H (1 : Fin 3); change o ≤ (i 1).val ∧ (i 1).val < o + n at H1
    omega
  · match a with
    | ⟨0, _⟩ => show b ≤ (i 0).val ∧ (i 0).val < b + 1; omega
    | ⟨1, _⟩ => show o ≤ (i 1).val ∧ (i 1).val < o + n; omega
    | ⟨2, _⟩ => show 0 ≤ (i 2).val ∧ (i 2).val < 0 + 1024; omega

section Out
variable (c : Dev nD) (i : S4x256x1024.Idx)
theorem mem_own : i ∈ (ownM c).view.set ↔ (i 0).val = (c.val + 1) % 4 := by
  have h1 : (i 1).val < 256 := (i 1).isLt
  refine (mem_rows ((c.val + 1) % 4) 0 (k0_off11_eq c 0) _ i).trans ⟨fun h => h.1, fun h => ⟨h, by omega⟩⟩
theorem mem_prev : i ∈ (prevM c).view.set ↔ (i 0).val = c.val := by
  have h1 : (i 1).val < 256 := (i 1).isLt
  refine (mem_rows c.val 0 (k0_off12_eq c) _ i).trans ⟨fun h => h.1, fun h => ⟨h, by omega⟩⟩
theorem mem_prevTop : i ∈ (prevTopM c).view.set ↔ (i 0).val = c.val ∧ (i 1).val < 128 :=
  (mem_rows c.val 0 (k0_off13_eq c) _ i).trans ⟨fun h => ⟨h.1, by omega⟩, fun h => ⟨h.1, by omega⟩⟩
theorem mem_next : i ∈ (nextM c).view.set ↔ (i 0).val = (c.val + 2) % 4 := by
  have h1 : (i 1).val < 256 := (i 1).isLt
  refine (mem_rows ((c.val + 1 + 1) % 4) 0 (k0_off11_eq c 1) _ i).trans ⟨fun h => h.1, fun h => ⟨h, by omega⟩⟩
theorem mem_nextLow : i ∈ (nextLowM c).view.set ↔ (i 0).val = (c.val + 2) % 4 ∧ 128 ≤ (i 1).val := by
  have h1 : (i 1).val < 256 := (i 1).isLt
  refine (mem_rows ((c.val + 0 + 2) % 4) 128 (k0_off14_eq c 0) _ i).trans
    ⟨fun h => ⟨h.1, h.2.1⟩, fun h => ⟨h.1, by omega⟩⟩
theorem mem_oppTop : i ∈ (oppTopM c).view.set ↔ (i 0).val = (c.val + 3) % 4 ∧ (i 1).val < 128 :=
  (mem_rows ((c.val + 3) % 4) 0 (k0_off15_eq c) _ i).trans ⟨fun h => ⟨h.1, by omega⟩, fun h => ⟨h.1, by omega⟩⟩
theorem mem_oppLow : i ∈ (oppLowM c).view.set ↔ (i 0).val = (c.val + 3) % 4 ∧ 128 ≤ (i 1).val := by
  have h1 : (i 1).val < 256 := (i 1).isLt
  refine (mem_rows ((c.val + 1 + 2) % 4) 128 (k0_off14_eq c 1) _ i).trans
    ⟨fun h => ⟨h.1, h.2.1⟩, fun h => ⟨h.1, by omega⟩⟩
end Out

/-! ## What a copy writes -/

section Generic
variable {sp : Space} {s : Shape} {e : EltTy} (v : View sig .tc sp s e)

/-- Element by element over a view's own elements, written whole. -/
theorem write_on (f g : v.ty.Contents (Elt F)) (w : s.Idx → Elt F e)
    (h : ∀ y, _root_.cast (congrArg (Elt F) v.elt_eq.symm) (w y) = g (v.emb y)) :
    ∀ i ∈ v.set, v.write (Elt F) f w Finset.univ i = g i := by
  intro i hi
  obtain ⟨y, -, rfl⟩ := Finset.mem_map.mp hi
  rw [View.write_emb_of_mem _ _ (Finset.mem_univ _), h]

/-- What a view's elements hold, written into the same view of other contents. -/
theorem write_self (f g : v.ty.Contents (Elt F)) :
    ∀ i ∈ v.set, v.write (Elt F) f (v.read (Elt F) g) Finset.univ i = g i :=
  write_on v f g _ fun y => by rw [View.read_apply, cast_cast, cast_eq]
end Generic

/-! The squeezed windows, element by element. -/

theorem squeeze_src (y : S1x1024x128.Idx) (h : S1x1024x128.numel = S1x1024x1x128.numel) :
    Shape.reshapeEquiv (s := S1x1024x1x128) (s' := S1x1024x128) h y = ix4 (n0 := 1) (n1 := 1024) (n2 := 1) (n3 := 128) (y 0) (y 1) 0 (y 2) :=
  Shape.reshapeEquiv_eq_of_rowMajor h ((Shape.rowMajor_val_four (d := ![1, 1024, 1, 128]) _).trans
    (Eq.trans (by
      show (((y 0).val * 1024 + (y 1).val) * 1 + 0) * 128 + (y 2).val = ((y 0).val * 1024 + (y 1).val) * 128 + (y 2).val
      omega) (Shape.rowMajor_val_three (d := ![1, 1024, 128]) y).symm))

theorem squeeze_dst (y : S1x1024x128.Idx) (h : S1x1024x128.numel = S1x1x1x1024x128.numel) :
    Shape.reshapeEquiv (s := S1x1x1x1024x128) (s' := S1x1024x128) h y
      = ix5 (n0 := 1) (n1 := 1) (n2 := 1) (n3 := 1024) (n4 := 128) 0 0 (y 0) (y 1) (y 2) :=
  Shape.reshapeEquiv_eq_of_rowMajor h ((Shape.rowMajor_val_five (d := ![1, 1, 1, 1024, 128]) _).trans
    (Eq.trans (by
      show ((((0 * 1 + 0) * 1 + (y 0).val) * 1024 + (y 1).val) * 128 + (y 2).val) = ((y 0).val * 1024 + (y 1).val) * 128 + (y 2).val
      omega) (Shape.rowMajor_val_three (d := ![1, 1024, 128]) y).symm))

theorem squeeze_part (y : S256x1024.Idx) (h : S256x1024.numel = S1x256x1024.numel) :
    Shape.reshapeEquiv (s := S1x256x1024) (s' := S256x1024) h y = ix3 (n0 := 1) (n1 := 256) (n2 := 1024) 0 (y 0) (y 1) :=
  Shape.reshapeEquiv_eq_of_rowMajor h ((Shape.rowMajor_val_three (d := ![1, 256, 1024]) _).trans
    (Eq.trans (by
      show (0 * 256 + (y 0).val) * 1024 + (y 1).val = (y 0).val * 1024 + (y 1).val
      omega) (Shape.rowMajor_val_two (d := ![256, 1024]) y).symm))

theorem squeeze_land (y : S256x1024.Idx) (h : S256x1024.numel = S1x1x256x1024.numel) :
    Shape.reshapeEquiv (s := S1x1x256x1024) (s' := S256x1024) h y
      = ix4 (n0 := 1) (n1 := 1) (n2 := 256) (n3 := 1024) 0 0 (y 0) (y 1) :=
  Shape.reshapeEquiv_eq_of_rowMajor h ((Shape.rowMajor_val_four (d := ![1, 1, 256, 1024]) _).trans
    (Eq.trans (by
      show ((0 * 1 + 0) * 256 + (y 0).val) * 1024 + (y 1).val = (y 0).val * 1024 + (y 1).val
      omega) (Shape.rowMajor_val_two (d := ![256, 1024]) y).symm))

section Emb
variable (c : Dev nD) (t : Fin 4) (h : Fin 8) (r : Fin 3)

theorem kSrc_emb (y : S1x1024x128.Idx) :
    (kvSrc kW c t h).view.emb y = ix4 (n0 := 4) (n1 := 1024) (n2 := 8) (n3 := 128) (chunk c t) (y 1) h (y 2) := by
  have e : (kvSrc kW c t h).view.emb y = (Rect.unit (s := S4x1024x8x128) (koff c t h) S1x1024x1x128.size (koff_inb c t h)).emb
      (Shape.reshapeEquiv (s := S1x1024x1x128) (s' := S1x1024x128) squeezes_S1x1024x1x128_S1x1024x128.numel_eq y) := rfl
  rw [e, squeeze_src]
  have h0 : (y 0).val < 1 := (y 0).isLt
  funext a
  refine Fin.ext ?_
  rw [Rect.emb_apply]
  have ho : (Rect.unit (s := S4x1024x8x128) (koff c t h) S1x1024x1x128.size (koff_inb c t h)).off
    = ![((c.val + 4) - t.val) % 4, 0, h.val, 0] := koff_eq c t h
  rw [ho]
  match a with
  | ⟨0, _⟩ => show ((c.val + 4) - t.val) % 4 + 1 * (y 0).val = ((c.val + 4) - t.val) % 4; omega
  | ⟨1, _⟩ => show 0 + 1 * (y 1).val = (y 1).val; omega
  | ⟨2, _⟩ => show h.val + 1 * 0 = h.val; omega
  | ⟨3, _⟩ => show 0 + 1 * (y 2).val = (y 2).val; omega

theorem vSrc_emb (y : S1x1024x128.Idx) :
    (kvSrc vW c t h).view.emb y = ix4 (n0 := 4) (n1 := 1024) (n2 := 8) (n3 := 128) (chunk c t) (y 1) h (y 2) :=
  kSrc_emb c t h y

theorem slot_lt : slot t < 2 := Nat.mod_lt _ (by decide)

theorem kDst_emb (y : S1x1024x128.Idx) :
    (kvDst kbW t h).view.emb y = ix5 (n0 := 2) (n1 := 8) (n2 := 1) (n3 := 1024) (n4 := 128) ⟨slot t, slot_lt t⟩ h (y 0) (y 1) (y 2) := by
  have e : (kvDst kbW t h).view.emb y = (Rect.unit (s := S2x8x1x1024x128) ![slot t, h.val, 0, 0, 0] S1x1x1x1024x128.size (bufInb t h)).emb
      (Shape.reshapeEquiv (s := S1x1x1x1024x128) (s' := S1x1024x128) squeezes_S1x1x1x1024x128_S1x1024x128.numel_eq y) := rfl
  rw [e, squeeze_dst]
  funext a
  refine Fin.ext ?_
  rw [Rect.emb_apply]
  match a with
  | ⟨0, _⟩ => show slot t + 1 * 0 = slot t; omega
  | ⟨1, _⟩ => show h.val + 1 * 0 = h.val; omega
  | ⟨2, _⟩ => show 0 + 1 * (y 0).val = (y 0).val; omega
  | ⟨3, _⟩ => show 0 + 1 * (y 1).val = (y 1).val; omega
  | ⟨4, _⟩ => show 0 + 1 * (y 2).val = (y 2).val; omega

theorem vDst_emb (y : S1x1024x128.Idx) :
    (kvDst vbW t h).view.emb y = ix5 (n0 := 2) (n1 := 8) (n2 := 1) (n3 := 1024) (n4 := 128) ⟨slot t, slot_lt t⟩ h (y 0) (y 1) (y 2) :=
  kDst_emb t h y

theorem part_emb (y : S256x1024.Idx) :
    (partM t).view.emb y = ix3 (n0 := 2) (n1 := 256) (n2 := 1024) ⟨slot t, slot_lt t⟩ (y 0) (y 1) := by
  have e : (partM t).view.emb y = (Rect.unit (s := S2x256x1024) ![slot t, 0, 0] S1x256x1024.size (partInb t)).emb
      (Shape.reshapeEquiv (s := S1x256x1024) (s' := S256x1024) squeezes_S1x256x1024_S256x1024.numel_eq y) := rfl
  rw [e, squeeze_part]
  funext a
  refine Fin.ext ?_
  rw [Rect.emb_apply]
  match a with
  | ⟨0, _⟩ => show slot t + 1 * 0 = slot t; omega
  | ⟨1, _⟩ => show 0 + 1 * (y 0).val = (y 0).val; omega
  | ⟨2, _⟩ => show 0 + 1 * (y 1).val = (y 1).val; omega

theorem land_emb (y : S256x1024.Idx) :
    (landM r).view.emb y = ix4 (n0 := 1) (n1 := 3) (n2 := 256) (n3 := 1024) 0 r (y 0) (y 1) := by
  have e : (landM r).view.emb y = (Rect.unit (s := S1x3x256x1024) ![0, r.val, 0, 0] S1x1x256x1024.size (landInb r)).emb
      (Shape.reshapeEquiv (s := S1x1x256x1024) (s' := S256x1024) squeezes_S1x1x256x1024_S256x1024.numel_eq y) := rfl
  rw [e, squeeze_land]
  funext a
  refine Fin.ext ?_
  rw [Rect.emb_apply]
  match a with
  | ⟨0, _⟩ => rfl
  | ⟨1, _⟩ => show r.val + 1 * 0 = r.val; omega
  | ⟨2, _⟩ => show 0 + 1 * (y 0).val = (y 0).val; omega
  | ⟨3, _⟩ => show 0 + 1 * (y 1).val = (y 1).val; omega

variable (I : Ins F)

/-- A copy of keys leaves, in its window, the keys of its chunk and head. -/
theorem copy_k (fd : S2x8x1x1024x128.Idx → Elt F .f32) :
    ∀ i ∈ (kvDst kbW t h).view.set, (kvDst kbW t h).view.write (Elt F) fd ((kvSrc kW c t h).view.read (Elt F) (I.k c)) Finset.univ i
      = kvAt (I.k c) c t i :=
  write_on (kvDst kbW t h).view fd (kvAt (I.k c) c t) _ fun y => by
    rw [View.read_apply, cast_cast, kSrc_emb, kDst_emb]; rfl

theorem copy_v (fd : S2x8x1x1024x128.Idx → Elt F .f32) :
    ∀ i ∈ (kvDst vbW t h).view.set, (kvDst vbW t h).view.write (Elt F) fd ((kvSrc vW c t h).view.read (Elt F) (I.v c)) Finset.univ i
      = kvAt (I.v c) c t i :=
  write_on (kvDst vbW t h).view fd (kvAt (I.v c) c t) _ fun y => by
    rw [View.read_apply, cast_cast, vSrc_emb, vDst_emb]; rfl

/-- An exchange of partial products leaves the sender's in its landing place. -/
theorem copy_part (fd : S1x3x256x1024.Idx → Elt F .f32) :
    ∀ i ∈ (landM r).view.set, (landM r).view.write (Elt F) fd ((partM r.castSucc).view.read (Elt F) (partAt I (turn (r.val + 1) c) r.castSucc)) Finset.univ i
      = landAt I c i :=
  write_on (landM r).view fd (landAt I c) _ fun y => by
    rw [View.read_apply, cast_cast, part_emb, land_emb]; rfl

end Emb

/-! ## What the loads read and the stores leave -/

section Access
variable (I : Ins F) (c : Dev nD) (t : Fin 4) (h : Fin 8) (r : Fin 3)

theorem chunk_val : (chunk c t).val = ((c.val + 4) - t.val) % 4 := rfl

theorem read_x (f : Vec F S4x256x1024 .f32) :
    xW.view.readAt (Elt F) (Rect.unit (s := S4x256x1024) (k0_off9 c (BitVec.ofNat 32 t.val)) S1x256x1024.size (k0_off9_inb c t)).toLoadRect f
      = fun i => f (ix3 (chunk c t) (i 1) (i 2)) := by
  funext i
  have h0 : (i 0).val < 1 := (i 0).isLt
  refine congrArg f (funext fun a => Fin.ext ?_)
  refine Eq.trans (b := (![((c.val + 4) - t.val) % 4, 0, 0] : Fin 3 → ℕ) a + 1 * (i a).val)
    (congrArg (· + 1 * (i a).val) (congrFun (k0_off9_eq c t) a)) ?_
  match a with
  | ⟨0, _⟩ => show ((c.val + 4) - t.val) % 4 + 1 * (i 0).val = ((c.val + 4) - t.val) % 4; omega
  | ⟨1, _⟩ => show 0 + 1 * (i 1).val = (i 1).val; omega
  | ⟨2, _⟩ => show 0 + 1 * (i 2).val = (i 2).val; omega

theorem zeros2 : (![0, 0] : Fin 2 → ℕ) = fun _ => 0 := funext fun a => by fin_cases a <;> rfl

theorem read_wq (f : Vec F S1024x1024 .f32) :
    wqW.view.readAt (Elt F) (Rect.unit (s := S1024x1024) ![0, 0] S1024x1024.size inb_S1024x1024_S1024x1024_0_0).toLoadRect f = f :=
  Memref.readAt_unit_zero (Elt F) cc0_stg1_0 zeros2 _ f
theorem read_wo (f : Vec F S1024x1024 .f32) :
    woW.view.readAt (Elt F) (Rect.unit (s := S1024x1024) ![0, 0] S1024x1024.size inb_S1024x1024_S1024x1024_0_0).toLoadRect f = f :=
  Memref.readAt_unit_zero (Elt F) cc0_stg2_0 zeros2 _ f
theorem read_attn (f : Vec F S256x1024 .f32) :
    aW.view.readAt (Elt F) (Rect.unit (s := S256x1024) ![0, 0] S256x1024.size inb_S256x1024_S256x1024_0_0).toLoadRect f = f :=
  Memref.readAt_unit_zero (Elt F) cc0_scratch2 zeros2 _ f

theorem read_kb (a : Vec F S4x1024x8x128 .f32) :
    kbW.view.readAt (Elt F) (Rect.unit (s := S2x8x1x1024x128) ![slot t, h.val, 0, 0, 0] S1x1x1x1024x128.size (bufInb t h)).toLoadRect
      (kvAt a c t) = kvSlab a c t h := by
  funext i
  have h1 : (i 1).val < 1 := (i 1).isLt
  refine congrArg a (funext fun b => Fin.ext ?_)
  match b with
  | ⟨0, _⟩ => rfl
  | ⟨1, _⟩ => show 0 + 1 * (i 3).val = (i 3).val; omega
  | ⟨2, _⟩ => show h.val + 1 * (i 1).val = h.val; omega
  | ⟨3, _⟩ => show 0 + 1 * (i 4).val = (i 4).val; omega

theorem read_vb (a : Vec F S4x1024x8x128 .f32) :
    vbW.view.readAt (Elt F) (Rect.unit (s := S2x8x1x1024x128) ![slot t, h.val, 0, 0, 0] S1x1x1x1024x128.size (bufInb t h)).toLoadRect
      (kvAt a c t) = kvSlab a c t h := read_kb c t h a

/-- The first `n` heads' columns hold their outputs. -/
def Upto (n : ℕ) (g : Vec F S256x1024 .f32) : Prop := ∀ i : S256x1024.Idx, (i 1).val < 128 * n → g i = attnAt I c t i

theorem upto_zero (g : Vec F S256x1024 .f32) : Upto I c t 0 g := fun i hi => absurd hi (by omega)

theorem upto_all {g : Vec F S256x1024 .f32} (hg : Upto I c t 8 g) : g = attnAt I c t :=
  funext fun i => hg i (by have : (i 1).val < 1024 := (i 1).isLt; omega)

/-- The next head's output, stored over its columns. -/
theorem upto_succ {g : Vec F S256x1024 .f32} (hg : Upto I c t h.val g) :
    Upto I c t (h.val + 1) ((aW.access (Rect.unit (s := S256x1024) ![0, 128 * h.val] S256x128.size (colInb h)) : View sig .tc _ _ _).write (Elt F) g
      (headPay h (qv I c t) (kvSlab (I.k c) c t h) (kvSlab (I.v c) c t h)) Finset.univ) := by
  intro i hi
  have h1 : (i 1).val < 1024 := (i 1).isLt
  have h0 : (i 0).val < 256 := (i 0).isLt
  by_cases hc : 128 * h.val ≤ (i 1).val
  · have hh : headOf (i 1) = h := Fin.ext (show (i 1).val / 128 = h.val by omega)
    have hm : i ∈ (aW.access (Rect.unit (s := S256x1024) ![0, 128 * h.val] S256x128.size (colInb h)) : View sig .tc _ _ _).set := by
      have hs : (aW.access (Rect.unit (s := S256x1024) ![0, 128 * h.val] S256x128.size (colInb h)) : View sig .tc _ _ _).set
          = (Rect.unit (s := S256x1024) ![0, 128 * h.val] S256x128.size (colInb h)).set := View.set_slice_whole _ _
      rw [hs, Rect.mem_set_unit]
      intro a
      match a with
      | ⟨0, _⟩ => show 0 ≤ (i 0).val ∧ (i 0).val < 0 + 256; omega
      | ⟨1, _⟩ => show 128 * h.val ≤ (i 1).val ∧ (i 1).val < 128 * h.val + 128; omega
    refine write_on (aW.access (Rect.unit (s := S256x1024) ![0, 128 * h.val] S256x128.size (colInb h)) : View sig .tc _ _ _) g
      (attnAt I c t) _ (fun y => ?_) i hm
    have y1 : (y 1).val < 128 := (y 1).isLt
    have e1 : ((aW.access (Rect.unit (s := S256x1024) ![0, 128 * h.val] S256x128.size (colInb h)) : View sig .tc _ _ _).emb y 1).val = 128 * h.val + (y 1).val := by
      show 128 * h.val + 1 * (y 1).val = _; omega
    have eh : headOf ((aW.access (Rect.unit (s := S256x1024) ![0, 128 * h.val] S256x128.size (colInb h)) : View sig .tc _ _ _).emb y 1) = h :=
      Fin.ext (by show Fin.val _ / 128 = h.val; rw [e1]; omega)
    show headPay h _ _ _ y = attnAt I c t _
    unfold attnAt
    rw [eh]
    congr 1
    funext b
    refine Fin.ext ?_
    match b with
    | ⟨0, _⟩ => show (y 0).val = 0 + 1 * (y 0).val; omega
    | ⟨1, _⟩ => show (y 1).val = Fin.val _ % 128; rw [e1]; omega
  · rw [View.write_of_not_mem, hg i (by omega)]
    intro hm
    have hs : (aW.access (Rect.unit (s := S256x1024) ![0, 128 * h.val] S256x128.size (colInb h)) : View sig .tc _ _ _).setOn Finset.univ
        = (Rect.unit (s := S256x1024) ![0, 128 * h.val] S256x128.size (colInb h)).set := View.set_slice_whole _ _
    rw [hs, Rect.mem_set_unit] at hm
    have h1 := hm (1 : Fin 2)
    change 128 * h.val ≤ (i 1).val ∧ _ at h1
    exact hc h1.1

/-- Where a partial product is stored. -/
abbrev partAcc (t : Fin 4) : View sig .tc .vmem S1x256x1024 .f32 :=
  pW.access (Rect.unit (s := S2x256x1024) ![slot t, 0, 0] S1x256x1024.size (partInb t))
/-- Where the sum is stored. -/
abbrev ownAcc (c : Dev nD) : View sig .tc .vmem S1x256x1024 .f32 :=
  oW.access (Rect.unit (s := S4x256x1024) (k0_off10 c) S1x256x1024.size (k0_off10_inb c))

theorem store_partAcc (f : Vec F S2x256x1024 .f32) (w : Vec F S1x256x1024 .f32) (i : S2x256x1024.Idx) (hi : i ∈ (partAcc t).set) :
    (partAcc t).write (Elt F) f w Finset.univ i = w (ix3 0 (i 1) (i 2)) := by
  refine write_on (partAcc t) f (fun i => w (ix3 0 (i 1) (i 2))) w (fun y => ?_) i hi
  have y0 : (y 0).val < 1 := (y 0).isLt
  refine congrArg w (funext fun b => Fin.ext ?_)
  match b with
  | ⟨0, _⟩ => show (y 0).val = 0; omega
  | ⟨1, _⟩ => show (y 1).val = 0 + 1 * (y 1).val; omega
  | ⟨2, _⟩ => show (y 2).val = 0 + 1 * (y 2).val; omega

theorem partAcc_set : (partM t).view.set = (partAcc t).set := View.set_reshape _ _

theorem store_part (f : Vec F S2x256x1024 .f32) : ∀ i ∈ (partM t).view.set,
    (partAcc t).write (Elt F) f (part I c t) Finset.univ i = partAt I c t i := by
  rw [partAcc_set]
  exact fun i hi => store_partAcc t f (part I c t) i hi

theorem read_part :
    pW.view.readAt (Elt F) (Rect.unit (s := S2x256x1024) ![1, 0, 0] S1x256x1024.size inb_S2x256x1024_S1x256x1024_1_0_0).toLoadRect
      (partAt I c 3) = part I c 3 := by
  funext y
  have y0 : (y 0).val < 1 := (y 0).isLt
  show part I c 3 _ = part I c 3 y
  congr 1
  funext b
  refine Fin.ext ?_
  match b with
  | ⟨0, _⟩ => show 0 = (y 0).val; omega
  | ⟨1, _⟩ => show 0 + 1 * (y 1).val = (y 1).val; omega
  | ⟨2, _⟩ => show 0 + 1 * (y 2).val = (y 2).val; omega

theorem read_land :
    rW.view.readAt (Elt F) (Rect.unit (s := S1x3x256x1024) ![0, r.val, 0, 0] S1x1x256x1024.size (landInb r)).toLoadRect
      (landAt I c) = fun i => landed I c r (ix3 (i 1) (i 2) (i 3)) := by
  funext y
  have y1 : (y 1).val < 1 := (y 1).isLt
  show landed I c _ _ = landed I c r _
  congr 1
  · exact Fin.ext (show r.val + 1 * (y 1).val = r.val by omega)
  · funext b
    refine Fin.ext ?_
    match b with
    | ⟨0, _⟩ => show 0 = (y 1).val; omega
    | ⟨1, _⟩ => show 0 + 1 * (y 2).val = (y 2).val; omega
    | ⟨2, _⟩ => show 0 + 1 * (y 3).val = (y 3).val; omega

theorem own_set : (ownM c).view.set = (ownAcc c).set := by
  ext i
  have h1 : (i 1).val < 256 := (i 1).isLt
  exact (mem_own c i).trans ((mem_rows ((c.val + 1) % 4) 0 (k0_off10_eq c) _ i).trans ⟨fun h => h.1, fun h => ⟨h, by omega⟩⟩).symm

theorem store_ownAcc (f : Vec F S4x256x1024 .f32) (w : Dev nD → Vec F S1x256x1024 .f32) (i : S4x256x1024.Idx) (hi : i ∈ (ownAcc c).set) :
    (ownAcc c).write (Elt F) f (w c) Finset.univ i = w (turn 3 (i 0)) (ix3 0 (i 1) (i 2)) := by
  refine write_on (ownAcc c) f (fun i => w (turn 3 (i 0)) (ix3 0 (i 1) (i 2))) (w c) (fun y => ?_) i hi
  have y0 : (y 0).val < 1 := (y 0).isLt
  have e (a : Fin 3) : ((ownAcc c).emb y a).val = (![(c.val + 1) % 4, 0, 0] : Fin 3 → ℕ) a + 1 * (y a).val := by
    rw [← k0_off10_eq c]; rfl
  have e0 : ((ownAcc c).emb y 0).val = (c.val + 1) % 4 + 1 * (y 0).val := e 0
  have e1 : ((ownAcc c).emb y 1).val = 0 + 1 * (y 1).val := e 1
  have e2 : ((ownAcc c).emb y 2).val = 0 + 1 * (y 2).val := e 2
  have hc : c.val < 4 := c.isLt
  have hd : turn 3 ((ownAcc c).emb y 0) = c := Fin.ext (by show (((ownAcc c).emb y 0).val + 3) % 4 = c.val; rw [e0]; omega)
  show w c y = w (turn 3 ((ownAcc c).emb y 0)) _
  rw [hd]
  refine congrArg (w c) (funext fun b => Fin.ext ?_)
  match b with
  | ⟨0, _⟩ => show (y 0).val = 0; omega
  | ⟨1, _⟩ => show (y 1).val = Fin.val _; rw [e1]; omega
  | ⟨2, _⟩ => show (y 2).val = Fin.val _; rw [e2]; omega

theorem store_own (f : Vec F S4x256x1024 .f32) : ∀ i ∈ (ownM c).view.set,
    (ownAcc c).write (Elt F) f (tot I c) Finset.univ i = fin I i := by
  rw [own_set]
  exact fun i hi => store_ownAcc c f (tot I) i hi

end Access

end Cert.KernelIdeal.Body
-- ==== Proof.Protocol.lean ====
/-
  The protocol between the four devices.

  Every device has one barrier cell and, for each of the seven exchanges, a cell that says "my copy has been read off"
  and a cell that says "a copy has landed here". Every cell is used once.

  * Exchanges 0, 1, 2 carry the partial products to the device that adds them up: to the devices three, two and one
    places on.
  * Exchanges 3 and 4 carry a device's finished chunk to its two neighbours; 5 and 6 carry on half of what each
    neighbour sent.

  A device's greeting hands its receiver every place on the greeting device that the receiver will write into. A landed
  copy hands over the place with its final contents; a copy that has been read off hands back what was read.
-/
module

public import proofs.«01_k».proof.Proof.Steps
public import proofs.«01_k».proof.Proof.Contents
public import proofs.«01_k».proof.Proof.Windows
public import proofs.«01_k».proof.Proof.Gen.KernelIdeal.Launch
public import Idealize.ShloMosaic.Lib.Batch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state -/

/-- The protocol's rounds; a cell has at most three duties. -/
abbrev UB : Type := URounds (GSem nD τ sig) (Fin 3)
/-- The launch's own part, the protocol's, and the counters of the key and value copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
abbrev EC : UEmb Counters (MT nD τ sig Unit (Elt F) ℕ UU ℕ) := countersEmb (U := UU)

instance : (ER (F := F)).LandsIn (upEmb : UEmb _ 𝕄) := by unfold ER; infer_instance

abbrev 𝒱₀ : Variants := Variants.none

/-! ## Exchanges and cells -/

/-- The seven exchanges. -/
abbrev Exch := Fin 7

/-- How many places on exchange `e` goes. -/
def hop : Exch → ℕ := ![3, 2, 1, 1, 3, 1, 3]

/-- Where exchange `e` of device `c` goes. -/
abbrev goal (e : Exch) (c : Dev nD) : Dev nD := turn (hop e) c

def sendS : Exch → DmaSem sig :=
  ![sem3 cc0_scratch7 0, sem3 cc0_scratch7 1, sem3 cc0_scratch7 2,
    sem4 cc0_scratch9 0, sem4 cc0_scratch9 1, sem4 cc0_scratch9 2, sem4 cc0_scratch9 3]
def recvS : Exch → DmaSem sig :=
  ![sem3 cc0_scratch8 0, sem3 cc0_scratch8 1, sem3 cc0_scratch8 2,
    sem4 cc0_scratch10 0, sem4 cc0_scratch10 1, sem4 cc0_scratch10 2, sem4 cc0_scratch10 3]

/-- A device's cells: the barrier, and for an exchange "read off" (`false`) and "landed" (`true`). -/
abbrev Cell := Option (Exch × Bool)

def csem : Cell → SemLoc sig
  | none => .reg barS.sem
  | some (e, false) => .dma (sendS e)
  | some (e, true) => .dma (recvS e)

abbrev kcell (ck : Dev nD × Cell) : GSem nD τ sig := ((ck.1 : Thread nD τ), csem ck.2)
abbrev barCell (c : Dev nD) : GSem nD τ sig := kcell (c, none)
abbrev sendCell (c : Dev nD) (e : Exch) : GSem nD τ sig := kcell (c, some (e, false))
abbrev recvCell (c : Dev nD) (e : Exch) : GSem nD τ sig := kcell (c, some (e, true))

/-- All cells of a device, in a row. -/
def cellList : List Cell :=
  [none, some (0, false), some (1, false), some (2, false), some (3, false), some (4, false), some (5, false),
    some (6, false), some (0, true), some (1, true), some (2, true), some (3, true), some (4, true), some (5, true),
    some (6, true)]

/-- Which cell a semaphore is, if it is one of the protocol's. -/
def kind (s : SemLoc sig) : Option Cell := cellList.find? fun k => decide (csem k = s)

theorem kind_csem : ∀ k : Cell, kind (csem k) = some k := by decide

/-- The units exchange `e` carries. -/
def amt (e : Exch) : ℕ :=
  if e.val < 3 then (landM 0).view.dmaCredit
  else if e.val < 5 then (ownM 0).view.dmaCredit
  else (prevTopM 0).view.dmaCredit

theorem amt_pos (e : Exch) : 0 < amt e := by
  unfold amt
  split
  · exact View.dmaCredit_pos _ (by decide)
  · split <;> exact View.dmaCredit_pos _ (by decide)

/-! ## What changes hands -/

section Payloads
variable (I : Ins F)

/-- The place of the partial product of chunk `t` on `c`. -/
def partAtP (c : Dev nD) (t : Fin 4) (f : Vec F S2x256x1024 .f32) : sProp 𝕄 :=
  iprop(((pW).view.loc (c : Thread nD τ) ↦[(partM t).view.set]{fullShare} f))
/-- The landing place of exchange `r` on `c`. -/
def landP (c : Dev nD) (r : Fin 3) (f : Vec F S1x3x256x1024 .f32) : sProp 𝕄 :=
  iprop(((rW).view.loc (c : Thread nD τ) ↦[(landM r).view.set]{fullShare} f))
/-- Places of the result on `c`, at share `q`. -/
def outP (c : Dev nD) (S : Finset S4x256x1024.Idx) (q : PosShare TreeShare) (f : Vec F S4x256x1024 .f32) : sProp 𝕄 :=
  iprop(((oW).view.loc (c : Thread nD τ) ↦[S]{q} f))

instance (c : Dev nD) (t : Fin 4) (f) : BI.Storable (upEmb : UEmb _ 𝕄) (partAtP (F := F) c t f) := by
  unfold partAtP; infer_instance
instance (c : Dev nD) (r : Fin 3) (f) : BI.Storable (upEmb : UEmb _ 𝕄) (landP (F := F) c r f) := by
  unfold landP; infer_instance
instance (c : Dev nD) (S) (q) (f) : BI.Storable (upEmb : UEmb _ 𝕄) (outP (F := F) c S q f) := by
  unfold outP; infer_instance

/-- The place of the result on `c` that an exchange of the gather writes. -/
def outSet (c : Dev nD) (g : Fin 4) : Finset S4x256x1024.Idx :=
  match g with
  | 0 => (prevM c).view.set
  | 1 => (nextM c).view.set
  | 2 => (oppTopM c).view.set
  | 3 => (oppLowM c).view.set

/-- The place on `c` that exchange `e` writes, before it does. -/
def spot (c : Dev nD) (e : Exch) : sProp 𝕄 :=
  match e with
  | 0 => iprop(∃ f, landP c 0 f)
  | 1 => iprop(∃ f, landP c 1 f)
  | 2 => iprop(∃ f, landP c 2 f)
  | 3 => iprop(∃ f, outP c (outSet c 0) fullShare f)
  | 4 => iprop(∃ f, outP c (outSet c 1) fullShare f)
  | 5 => iprop(∃ f, outP c (outSet c 2) fullShare f)
  | 6 => iprop(∃ f, outP c (outSet c 3) fullShare f)

/-- The same place once the copy has landed. -/
def recvPay (c : Dev nD) (e : Exch) : sProp 𝕄 :=
  match e with
  | 0 => landP c 0 (landAt I c)
  | 1 => landP c 1 (landAt I c)
  | 2 => landP c 2 (landAt I c)
  | 3 => outP c (outSet c 0) fullShare (fin I)
  | 4 => outP c (outSet c 1) fullShare (fin I)
  | 5 => outP c (outSet c 2) fullShare (fin I)
  | 6 => outP c (outSet c 3) fullShare (fin I)

/-- What was read, once it has been read. -/
def sendPay (c : Dev nD) (e : Exch) : sProp 𝕄 :=
  match e with
  | 0 => partAtP c 0 (partAt I c 0)
  | 1 => partAtP c 1 (partAt I c 1)
  | 2 => partAtP c 2 (partAt I c 2)
  | 3 => outP c (ownM c).view.set fullShare.left (fin I)
  | 4 => outP c (ownM c).view.set fullShare.right (fin I)
  | 5 => outP c (prevTopM c).view.set fullShare (fin I)
  | 6 => outP c (nextLowM c).view.set fullShare (fin I)

/-- What the greeting of the device `d + 1` places on hands to `c`: the places there that `c` writes. -/
def barPay (c : Dev nD) (d : Fin 3) : sProp 𝕄 :=
  match d with
  | 0 => iprop(spot (turn 1 c) 2 ∗ spot (turn 1 c) 3 ∗ spot (turn 1 c) 5)
  | 1 => spot (turn 2 c) 1
  | 2 => iprop(spot (turn 3 c) 0 ∗ spot (turn 3 c) 4 ∗ spot (turn 3 c) 6)

instance (c : Dev nD) (e : Exch) : BI.Storable (upEmb : UEmb _ 𝕄) (spot (F := F) c e) := by
  unfold spot; split <;> infer_instance
instance (c : Dev nD) (e : Exch) : BI.Storable (upEmb : UEmb _ 𝕄) (recvPay I c e) := by
  unfold recvPay; split <;> infer_instance
instance (c : Dev nD) (e : Exch) : BI.Storable (upEmb : UEmb _ 𝕄) (sendPay I c e) := by
  unfold sendPay; split <;> infer_instance
instance (c : Dev nD) (d : Fin 3) : BI.Storable (upEmb : UEmb _ 𝕄) (barPay (F := F) c d) := by
  unfold barPay; split <;> infer_instance

/-! ## The schedule -/

def cellDuties : Option Cell → Finset (Fin 3)
  | some none => Finset.univ
  | some (some _) => {0}
  | none => ∅

def cellAmount : Option Cell → ℕ
  | some (some (e, _)) => amt e
  | _ => 1

def cellPay (c : Dev nD) (d : Fin 3) : Option Cell → sProp 𝕄
  | some none => barPay c d
  | some (some (e, true)) => recvPay I c e
  | some (some (e, false)) => sendPay I c e
  | none => iprop(emp)

theorem cellAmount_pos (k : Option Cell) : 0 < cellAmount k := by
  unfold cellAmount
  split
  · exact amt_pos _
  · exact Nat.one_pos

instance (c : Dev nD) (d : Fin 3) (k : Option Cell) : BI.Storable (upEmb : UEmb _ 𝕄) (cellPay I c d k) := by
  unfold cellPay; split <;> infer_instance

/-- Every cell has one round, the first. -/
def sched : Rounds.Schedule (GSem nD τ sig) (Fin 3) 𝕄 where
  duties g r := if r = 0 ∧ g.1.2 = .tc then cellDuties (kind g.2) else ∅
  unitless _ := False
  amount g _ _ := cellAmount (kind g.2)
  payload g _ d := cellPay I g.1.1 d (kind g.2)
  amount_pos g _ _ _ := cellAmount_pos _

instance (g : GSem nD τ sig) (r : ℕ) (d : Fin 3) : BI.Storable (upEmb : UEmb _ 𝕄) ((sched I).payload g r d) := by
  show BI.Storable upEmb (cellPay I g.1.1 d (kind g.2))
  infer_instance

variable (c : Dev nD) (e : Exch)

theorem duties_cell (k : Cell) : (sched I).duties (kcell (c, k)) 0 = cellDuties (some k) := by
  dsimp only [sched]; rw [if_pos ⟨rfl, rfl⟩]; exact congrArg _ (kind_csem k)
theorem duties_bar : (sched I).duties (barCell c) 0 = Finset.univ := duties_cell I c none
theorem duties_send : (sched I).duties (sendCell c e) 0 = {0} := duties_cell I c (some (e, false))
theorem duties_recv : (sched I).duties (recvCell c e) 0 = {0} := duties_cell I c (some (e, true))
theorem duties_later (g : GSem nD τ sig) : ∀ r, 1 ≤ r → (sched I).duties g r = ∅ :=
  fun r hr => by dsimp only [sched]; rw [if_neg fun h => by omega]

theorem amount_cell (k : Cell) (d : Fin 3) : (sched I).amount (kcell (c, k)) 0 d = cellAmount (some k) := by
  dsimp only [sched]; exact congrArg _ (kind_csem k)
theorem amount_bar (d : Fin 3) : (sched I).amount (barCell c) 0 d = 1 := amount_cell I c none d
theorem amount_send : (sched I).amount (sendCell c e) 0 0 = amt e := amount_cell I c (some (e, false)) 0
theorem amount_recv : (sched I).amount (recvCell c e) 0 0 = amt e := amount_cell I c (some (e, true)) 0

theorem pay_cell (k : Cell) (d : Fin 3) : (sched I).payload (kcell (c, k)) 0 d = cellPay I c d (some k) := by
  dsimp only [sched]; exact congrArg _ (kind_csem k)
theorem pay_bar (d : Fin 3) : (sched I).payload (barCell c) 0 d = barPay c d := pay_cell I c none d
theorem pay_send : (sched I).payload (sendCell c e) 0 0 = sendPay I c e := pay_cell I c (some (e, false)) 0
theorem pay_recv : (sched I).payload (recvCell c e) 0 0 = recvPay I c e := pay_cell I c (some (e, true)) 0

theorem expect_bar : (sched I).expect (barCell c) 0 = 3 := by
  unfold Schedule.expect Schedule.amountOf
  rw [duties_bar, Finset.sum_congr rfl fun d _ => amount_bar I c d, Finset.sum_const, Finset.card_univ, Fintype.card_fin,
    smul_eq_mul]
theorem expect_send : (sched I).expect (sendCell c e) 0 = amt e := by
  unfold Schedule.expect Schedule.amountOf; rw [duties_send, Finset.sum_singleton, amount_send]
theorem expect_recv : (sched I).expect (recvCell c e) 0 = amt e := by
  unfold Schedule.expect Schedule.amountOf; rw [duties_recv, Finset.sum_singleton, amount_recv]

theorem rest_bar : bigSep ((sched I).duties (barCell c) 0 \ ∅) (fun d => (sched I).payload (barCell c) 0 d)
    = iprop(barPay c 0 ∗ barPay c 1 ∗ barPay c 2) := by
  rw [Finset.sdiff_empty, duties_bar, bigSep_univ_eq_bigSepL [0, 1, 2] (by decide) (by decide)]
  show iprop((sched I).payload (barCell c) 0 0 ∗ (sched I).payload (barCell c) 0 1 ∗ (sched I).payload (barCell c) 0 2) = _
  rw [pay_bar, pay_bar, pay_bar]
theorem rest_send : bigSep ((sched I).duties (sendCell c e) 0 \ ∅) (fun d => (sched I).payload (sendCell c e) 0 d)
    = sendPay I c e := by
  rw [Finset.sdiff_empty, duties_send, bigSep_singleton, pay_send]
theorem rest_recv : bigSep ((sched I).duties (recvCell c e) 0 \ ∅) (fun d => (sched I).payload (recvCell c e) 0 d)
    = recvPay I c e := by
  rw [Finset.sdiff_empty, duties_recv, bigSep_singleton, pay_recv]

end Payloads

/-! ## What a device owes, and the levels -/

/-- A device's payments to the cells of others, in the order it makes them: the greetings, then the exchanges. -/
def pays (c : Dev nD) : List (GSem nD τ sig × ℕ) :=
  [(barCell (turn 3 c), 1), (barCell (turn 1 c), 1), (barCell (turn 2 c), 1),
    (recvCell (goal 0 c) 0, amt 0), (recvCell (goal 1 c) 1, amt 1), (recvCell (goal 2 c) 2, amt 2),
    (recvCell (goal 3 c) 3, amt 3), (recvCell (goal 4 c) 4, amt 4), (recvCell (goal 5 c) 5, amt 5),
    (recvCell (goal 6 c) 6, amt 6)]

/-- The debt of a row of payments. -/
def debt : List (GSem nD τ sig × ℕ) → CellTallies nD τ sig Unit
  | [] => 0
  | p :: l => debt l + tallyAt p.1 () p.2

/-- What `c` still owes after its first `n` payments. -/
def due (c : Dev nD) (n : ℕ) : CellTallies nD τ sig Unit := debt ((pays c).drop n)

theorem debt_pos {l : List (GSem nD τ sig × ℕ)} {g : GSem nD τ sig} {u : Unit} (h : 0 < debt l g u) :
    ∃ p ∈ l, p.1 = g := by
  induction l with
  | nil => exact absurd h (lt_irrefl 0)
  | cons p l ih =>
      unfold debt at h
      rw [Pi.add_apply, Finsupp.add_apply] at h
      rcases Nat.add_pos_iff_pos_or_pos.mp h with h | h
      · obtain ⟨p', hp, e⟩ := ih h
        exact ⟨p', List.mem_cons_of_mem _ hp, e⟩
      · rw [tallyAt_apply] at h
        by_cases e : g = p.1
        · exact ⟨p, List.mem_cons_self, e.symm⟩
        · rw [if_neg (fun h' => e h'.1)] at h; exact absurd h (lt_irrefl 0)

/-- The cells that have a level: those of the devices' cores. -/
def L (g : GSem nD τ sig) : Finset Unit := if g.1.2 = .tc then {()} else ∅

/-- A cell's level by its kind: greetings first, then the sums' exchanges, then the first and the second step of the
    gather; what a device pays itself is at level zero. -/
def rank : Option Cell → ℕ
  | some none => 1
  | some (some (e, true)) => (![2, 2, 2, 3, 3, 4, 4] : Fin 7 → ℕ) e
  | _ => 0

def lv (g : GSem nD τ sig) (_ : Unit) : ℕ := rank (kind g.2)

theorem L_of_ne (g : GSem nD τ sig) (h : g.1.2 ≠ .tc) : L g = ∅ := if_neg h
theorem L_tc (c : Dev nD) (sm : SemLoc sig) : L ((c : Thread nD τ), sm) = {()} := if_pos rfl

theorem pays_tc (c : Dev nD) : ∀ p ∈ pays c, L p.1 = {()} := by
  intro p hp
  simp only [pays, List.mem_cons, List.not_mem_nil, or_false] at hp
  rcases hp with rfl | rfl | rfl | rfl | rfl | rfl | rfl | rfl | rfl | rfl <;> exact L_tc _ _

/-- `c` may wait on a cell of its own that comes before everything it still owes. -/
theorem mayWait_due (c : Dev nD) (s : SemLoc sig) (n : ℕ)
    (h : ∀ p ∈ (pays c).drop n, rank (kind s) < rank (kind p.1.2)) :
    (levAts L lv : sProp 𝕄) ⊢ MayWait (c : Thread nD τ) s () (due c n) :=
  MayOwe.of_cut (L := L) (lev := lv) (rank (kind s))
    (fun p hp => by rw [Finset.mem_singleton.mp hp, L_tc]; exact Finset.mem_singleton_self _)
    (fun g u hg => by
      obtain ⟨p, hp, e⟩ := debt_pos hg
      rw [← e, pays_tc c p (List.mem_of_mem_drop hp)]; exact Finset.mem_singleton_self _)
    (fun p hp => by rw [Finset.mem_singleton.mp hp]; exact le_refl _)
    (fun g u hg => by
      obtain ⟨p, hp, e⟩ := debt_pos hg
      rw [← e]; exact h p hp)

/-- A semaphore at level zero comes before everything. -/
theorem rank_pays (c : Dev nD) : ∀ p ∈ pays c, 0 < rank (kind p.1.2) := by revert c; decide

theorem mayWait_zero (c : Dev nD) (s : SemLoc sig) (n : ℕ) (h : rank (kind s) = 0) :
    (levAts L lv : sProp 𝕄) ⊢ MayWait (c : Thread nD τ) s () (due c n) :=
  mayWait_due c s n fun p hp => by rw [h]; exact rank_pays c p (List.mem_of_mem_drop hp)

theorem mayWait_bar (c : Dev nD) :
    (levAts L lv : sProp 𝕄) ⊢ MayWait (c : Thread nD τ) (csem none) () (due c 3) :=
  mayWait_due c _ 3 (by revert c; decide)
/-- While the gather is still owed, the partial products may be waited for. -/
theorem mayWait_land (c : Dev nD) (r : Fin 3) :
    (levAts L lv : sProp 𝕄) ⊢ MayWait (c : Thread nD τ) (csem (some (Fin.castLE (by decide) r, true))) () (due c 6) :=
  mayWait_due c _ 6 (by revert c r; decide)
theorem mayWait_prev (c : Dev nD) :
    (levAts L lv : sProp 𝕄) ⊢ MayWait (c : Thread nD τ) (csem (some (3, true))) () (due c 8) :=
  mayWait_due c _ 8 (by revert c; decide)
theorem mayWait_next (c : Dev nD) :
    (levAts L lv : sProp 𝕄) ⊢ MayWait (c : Thread nD τ) (csem (some (4, true))) () (due c 9) :=
  mayWait_due c _ 9 (by revert c; decide)
theorem mayWait_done (c : Dev nD) (s : SemLoc sig) :
    (levAts L lv : sProp 𝕄) ⊢ MayWait (c : Thread nD τ) s () (due c 10) := by
  rw [show due c 10 = 0 from rfl, MayWait_zero]; iintro -; iempintro

end Cert.KernelIdeal.Body
-- ==== Proof.Moves.lean ====
/-
  The moves between devices: a greeting, a copy to another device, a wait for one of this device's cells. Each is
  stated with what it takes and what the program goes on with.
-/
module

public import proofs.«01_k».proof.Proof.Protocol

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- That the program `p`, run by device `c`, ends with `Q`. -/
abbrev runs (c : Dev nD) {α : Type} (p : P F α) (Q : α → sProp 𝕄) : sProp 𝕄 :=
  wp frame (wpE (defs₀ (F := F)) 𝒱₀ (c : Thread nD τ) none) Set.univ p Q

section Moves
variable (I : Ins F) (K : Dev nD × Cell → ℕ)

/-! ## What every device knows -/

/-- All cells' invariants under the names `K`, and that every cell has reached its round. -/
def records : sProp 𝕄 :=
  iprop(bigSep Finset.univ (fun ck : Dev nD × Cell => cellInv ER (sched I) (K ck) (kcell ck))
    ∗ bigSep Finset.univ (fun ck : Dev nD × Cell => reached ER (kcell ck) 0))

instance : BI.Persistent (records I K) := by unfold records; infer_instance

/-- One summand of a conjunction over finitely many. -/
theorem one_of {ι : Type} [Fintype ι] [DecidableEq ι] (Φ : ι → sProp 𝕄) (i : ι) : (bigSep Finset.univ Φ : sProp 𝕄) ⊢ Φ i :=
  bigSep_elim (Finset.mem_univ i)

theorem inv_at (ck : Dev nD × Cell) : records I K ⊢ (cellInv ER (sched I) (K ck) (kcell ck) : sProp 𝕄) := by
  unfold records
  iintro ⟨H, -⟩
  iapply (one_of (fun ck : Dev nD × Cell => cellInv ER (sched I) (K ck) (kcell ck)) ck) $$ H

theorem reached_at (ck : Dev nD × Cell) : records I K ⊢ (reached ER (kcell ck) 0 : sProp 𝕄) := by
  unfold records
  iintro ⟨-, H⟩
  iapply (one_of (fun ck : Dev nD × Cell => (reached ER (kcell ck) 0 : sProp 𝕄)) ck) $$ H

/-- What `c` still owes after its first `n` payments, whatever it has waited for. -/
def owing (c : Dev nD) (n : ℕ) : sProp 𝕄 := iprop(∃ W, owes (c : Thread nD τ) (due c n) W)

/-! ## A greeting -/

theorem greet_one (c p : Dev nD) (d : Fin 3) (n : ℕ) (hdue : due c n = due c (n + 1) + tallyAt (barCell p) () 1)
    (Kt : PUnit → sProp 𝕄) :
    iprop(records I K ∗ owing c n ∗ dutyTok ER (barCell p) 0 d ∗ barPay p d ∗ (owing c (n + 1) -∗ Kt ⟨⟩))
      ⊢ runs c (semSignalWord p barS.sem 1#32) Kt := by
  unfold owing
  iintro ⟨#HR, ⟨%W, HO⟩, Ht, Hp, Hk⟩
  ihave #HI := (inv_at I K (p, none)) $$ HR
  ihave #HW := (reached_at I K (p, none)) $$ HR
  simp only [semSignalWord, Prog.lift]
  iapply (Rounds.wp_signal 𝒱₀ ER (sched I) (c : Thread nD τ) none (dst := (p : Thread nD τ)) (κ := K (p, none))
      (d := d) (by rw [show ((p : Thread nD τ), SemLoc.reg barS.sem) = barCell p from rfl, duties_bar]; exact Finset.mem_univ _)
      ((amount_bar I p d).trans (by decide)) () (due c (n + 1)) hdue)
    $$ [HO Ht Hp]
  · isplitr; · iexact HI
    isplitl [HO]; · iexact HO
    isplitl [Ht]; · iexact Ht
    isplitl [Hp]
    · rw [show (sched I).payload ((p : Thread nD τ), SemLoc.reg barS.sem) 0 d = barPay p d from pay_bar I p d]; iexact Hp
    iexact HW
  iintro HO
  rw [wp_ret]; imodintro
  iapply Hk
  iexists W; iexact HO

/-- All greetings: every device hands the three others the places here that they write, and gets theirs. -/
theorem greet_spec (c : Dev nD) (Kt : PUnit → sProp 𝕄) :
    iprop(records I K ∗ levAts L lv ∗ owing c 0
        ∗ (dutyTok ER (barCell (turn 3 c)) 0 0 ∗ dutyTok ER (barCell (turn 1 c)) 0 2 ∗ dutyTok ER (barCell (turn 2 c)) 0 1)
        ∗ (spot c 0 ∗ spot c 1 ∗ spot c 2 ∗ spot c 3 ∗ spot c 4 ∗ spot c 5 ∗ spot c 6)
        ∗ atPos ER (barCell c) 0 ∅ 0 ∗ cred (tallyAt (barCell c) () 3)
        ∗ (owing c 3 ∗ semVal (barCell c) 0 ∗ (barPay c 0 ∗ barPay c 1 ∗ barPay c 2) -∗ Kt ⟨⟩))
      ⊢ runs c (greet c) Kt := by
  unfold greet runs
  rw [wp_bind, show (⟨k0_dev1 c, k0_dev1_lt c⟩ : Dev nD) = turn 3 c from Fin.ext (k0_dev1_eq c),
    show (⟨k0_dev2 c, k0_dev2_lt c⟩ : Dev nD) = turn 1 c from Fin.ext (k0_dev2_eq c),
    show (⟨k0_dev3 c, k0_dev3_lt c⟩ : Dev nD) = turn 2 c from Fin.ext (k0_dev3_eq c)]
  have e3 : turn 1 (turn 3 c) = c := by rw [turn_turn]; exact turn_four c
  have e1 : turn 3 (turn 1 c) = c := by rw [turn_turn]; exact turn_four c
  have e2 : turn 2 (turn 2 c) = c := by rw [turn_turn]; exact turn_four c
  iintro ⟨#HR, #HL, HO, ⟨Ht3, Ht1, Ht2⟩, ⟨S0, S1, S2, S3, S4, S5, S6⟩, Hat, Hc, Hk⟩
  iapply (greet_one I K c (turn 3 c) 0 0 rfl)
  isplitr; · iexact HR
  isplitl [HO]; · iexact HO
  isplitl [Ht3]; · iexact Ht3
  isplitl [S2 S3 S5]
  · unfold barPay; dsimp only; rw [e3]
    isplitl [S2]; · iexact S2
    isplitl [S3] <;> iassumption
  iintro HO
  rw [wp_bind]
  iapply (greet_one I K c (turn 1 c) 2 1 rfl)
  isplitr; · iexact HR
  isplitl [HO]; · iexact HO
  isplitl [Ht1]; · iexact Ht1
  isplitl [S0 S4 S6]
  · unfold barPay; dsimp only; rw [e1]
    isplitl [S0]; · iexact S0
    isplitl [S4] <;> iassumption
  iintro HO
  rw [wp_bind]
  iapply (greet_one I K c (turn 2 c) 1 2 rfl)
  isplitr; · iexact HR
  isplitl [HO]; · iexact HO
  isplitl [Ht2]; · iexact Ht2
  isplitl [S1]
  · unfold barPay; dsimp only; rw [e2]; iexact S1
  iintro HO
  unfold owing
  icases HO with ⟨%W, HO⟩
  ihave #HI := (inv_at I K (c, none)) $$ HR
  simp only [semWaitWord, Prog.lift]
  iapply (Rounds.wp_wait_rest_token 𝒱₀ ER (sched I) (c : Thread nD τ) none (sm := csem none) (κ := K (c, none))
      (wpE_semWait_eq 𝒱₀ (c : Thread nD τ) none Set.univ) (Set.mem_univ _) () (O := due c 3) (W := W) (R := 0) (m := 0) (T := ∅)
      (by rw [show ((c : Thread nD τ), csem none) = barCell c from rfl, expect_bar]; decide)) $$ [Hc HO Hat]
  · isplitr; · iexact HI
    isplitl [Hc]; · iexact Hc
    isplitl [HO]; · iexact HO
    isplitr; · iapply (mayWait_bar c); iexact HL
    iexact Hat
  iintro ⟨HO, Hat, -, Hpay⟩
  ihave Hp := (Entails.of_eq (rest_bar I c)) $$ Hpay
  imod (Rounds.cell_close ER (sched I) (Set.mem_univ (K (c, none))) (fun h => h) (R := 0 + 1) (duties_later I (barCell c))) $$ [Hat] with Hz
  · isplitr; · iexact HI
    iexact Hat
  rw [wp_ret]; imodintro
  iapply Hk
  isplitl [HO]; · iexists _; iexact HO
  isplitl [Hz] <;> iassumption

/-! ## A copy to another device -/

theorem send_spec {s : Shape} {src : Memref sig .tc .vmem s .f32} {n : Dev nD} {dst : Memref sig .tc .vmem s .f32}
    (c : Dev nD) (e : Exch) (hn : n = goal e c) {sS sem : SemLoc sig}
    (hS : sS = csem (some (e, false))) (hR : sem = csem (some (e, true)))
    {hsc : (dst : Memref sig (Dev.tc n : Thread nD τ).2.kind .vmem s .f32).view.ref.isScScratch = false}
    {hsrc : src.view.WordExact} {hdst : dst.view.WordExact}
    {hsem : DmaTarget.Typed .vmem sem (.remote (Dev.tc n : Thread nD τ) (dst : Memref sig (Dev.tc n : Thread nD τ).2.kind .vmem s .f32) sS hsc)}
    (q : PosShare TreeShare) (fs : Buf (Elt F) (src.view.loc (c : Thread nD τ)))
    (fd : Buf (Elt F) (dst.view.loc (goal e c : Thread nD τ)))
    (hN : dst.view.dmaCredit = amt e) (m : ℕ) (hdue : due c m = due c (m + 1) + tallyAt (recvCell (goal e c) e) () (amt e))
    (hpay₁ : (src.view.loc (c : Thread nD τ) ↦[src.view.set]{q} fs) ⊢ sendPay I c e)
    (hpay₂ : (dst.view.loc (goal e c : Thread nD τ) ↦[dst.view.set]{fullShare}
        (dst.view.write (Elt F) fd (src.view.read (Elt F) fs) Finset.univ)) ⊢ recvPay I (goal e c) e)
    (Kt : PUnit → sProp 𝕄) :
    iprop(records I K ∗ (src.view.loc (c : Thread nD τ) ↦[src.view.set]{q} fs)
        ∗ (dst.view.loc (goal e c : Thread nD τ) ↦[dst.view.set]{fullShare} fd)
        ∗ owing c m ∗ dutyTok ER (sendCell c e) 0 0 ∗ dutyTok ER (recvCell (goal e c) e) 0 0
        ∗ (cred (tallyAt (sendCell c e) () (amt e)) ∗ owing c (m + 1) -∗ Kt ⟨⟩))
      ⊢ runs c (Prog.lift (.enqueueDma src (.remote (Dev.tc n : Thread nD τ) dst sS hsc) sem hsrc hdst hsem)) Kt := by
  subst hn hS hR
  unfold owing
  iintro ⟨#HR, Hs, Hd, ⟨%W, HO⟩, Ht1, Ht2, Hk⟩
  ihave #HI1 := (inv_at I K (c, some (e, false))) $$ HR
  ihave #HI2 := (inv_at I K (goal e c, some (e, true))) $$ HR
  ihave #HW1 := (reached_at I K (c, some (e, false))) $$ HR
  ihave #HW2 := (reached_at I K (goal e c, some (e, true))) $$ HR
  simp only [Prog.lift]
  iapply (Rounds.wp_send_pointsTo 𝒱₀ ER (sched I) (c : Thread nD τ) none (κ₁ := K (c, some (e, false)))
      (κ₂ := K (goal e c, some (e, true))) (r₁ := 0) (r₂ := 0) (d₁ := 0) (d₂ := 0) (fd := fd)
      (by rw [show ((c : Thread nD τ), csem (some (e, false))) = sendCell c e from rfl, duties_send]; exact Finset.mem_singleton_self _)
      (by rw [show ((goal e c : Thread nD τ), csem (some (e, true))) = recvCell (goal e c) e from rfl, duties_recv]; exact Finset.mem_singleton_self _)
      () () (amt e) (show dst.view.amount (csem (some (e, true))) = amt e from hN) (amount_send I c e) (amount_recv I (goal e c) e) (due c (m + 1)) hdue (W := W)
      (by rw [show ((c : Thread nD τ), csem (some (e, false))) = sendCell c e from rfl, pay_send]; exact hpay₁)
      (by rw [show ((goal e c : Thread nD τ), csem (some (e, true))) = recvCell (goal e c) e from rfl, pay_recv]; exact hpay₂))
    $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HW1
    isplitl [Ht2]; · iexact Ht2
    iexact HW2
  iintro ⟨Hc, HO⟩
  rw [wp_ret]; imodintro
  iapply Hk
  isplitl [Hc]; · iexact Hc
  iexists W; iexact HO

/-! ## A wait -/

/-- What a cell's wait hands over. -/
def cellGives (c : Dev nD) (k : Exch × Bool) : sProp 𝕄 := if k.2 then recvPay I c k.1 else sendPay I c k.1

theorem expect_cell (c : Dev nD) (k : Exch × Bool) : (sched I).expect (kcell (c, some k)) 0 = amt k.1 := by
  rcases k with ⟨e, _ | _⟩
  · exact expect_send I c e
  · exact expect_recv I c e
theorem rest_cell (c : Dev nD) (k : Exch × Bool) :
    bigSep ((sched I).duties (kcell (c, some k)) 0 \ ∅) (fun d => (sched I).payload (kcell (c, some k)) 0 d)
      = cellGives I c k := by
  rcases k with ⟨e, _ | _⟩
  · exact rest_send I c e
  · exact rest_recv I c e

/-- A wait empties the cell and closes it. -/
theorem wait_spec {s s' : Shape} {src : Memref sig .tc .vmem s' .f32} {dst : Memref sig .tc .vmem s .f32} {sem : DmaSem sig}
    {hsrc : src.view.WordExact} {hdst : dst.view.WordExact}
    (c : Dev nD) (k : Exch × Bool) (hs : SemLoc.dma sem = csem (some k)) (hN : dst.view.dmaCredit = amt k.1) (n : ℕ)
    (hmay : (levAts L lv : sProp 𝕄) ⊢ MayWait (c : Thread nD τ) (csem (some k)) () (due c n)) (Kt : PUnit → sProp 𝕄) :
    iprop(records I K ∗ levAts L lv ∗ owing c n ∗ atPos ER (kcell (c, some k)) 0 ∅ 0
        ∗ cred (tallyAt (kcell (c, some k)) () (amt k.1))
        ∗ (owing c n ∗ semVal (kcell (c, some k)) 0 ∗ cellGives I c k -∗ Kt ⟨⟩))
      ⊢ runs c (Prog.lift (.waitDma2 sem src dst hsrc hdst)) Kt := by
  have hw : ∀ Q : PUnit → sProp 𝕄, wpE (defs₀ (F := F)) 𝒱₀ (c : Thread nD τ) none Set.univ (.waitDma2 sem src dst hsrc hdst) Q
      = waitSpec (c : Thread nD τ) Set.univ (csem (some k)) (amt k.1) Q := by
    intro Q
    rw [← hs, ← hN]
    exact wpE_waitDma2_eq 𝒱₀ (c : Thread nD τ) none Set.univ Q
  unfold owing
  iintro ⟨#HR, #HL, ⟨%W, HO⟩, Hat, Hc, Hk⟩
  ihave #HI := (inv_at I K (c, some k)) $$ HR
  simp only [Prog.lift]
  iapply (Rounds.wp_wait_rest_token 𝒱₀ ER (sched I) (c : Thread nD τ) none (κ := K (c, some k))
      hw (Set.mem_univ _) () (O := due c n) (W := W) (R := 0) (m := 0) (T := ∅)
      (by rw [Nat.zero_add]; exact (expect_cell I c k).symm)) $$ [Hc HO Hat]
  · isplitr; · iexact HI
    isplitl [Hc]; · iexact Hc
    isplitl [HO]; · iexact HO
    isplitr; · iapply hmay; iexact HL
    iexact Hat
  iintro ⟨HO, Hat, -, Hpay⟩
  ihave Hp := (Entails.of_eq (rest_cell I c k)) $$ Hpay
  imod (Rounds.cell_close ER (sched I) (Set.mem_univ (K (c, some k))) (fun h => h) (R := 0 + 1) (duties_later I (kcell (c, some k)))) $$ [Hat] with Hz
  · isplitr; · iexact HI
    iexact Hat
  rw [wp_ret]; imodintro
  iapply Hk
  isplitl [HO]; · iexists _; iexact HO
  isplitl [Hz] <;> iassumption

end Moves

end Cert.KernelIdeal.Body
-- ==== Proof.Copies.lean ====
/-
  The copies of keys and values. Those of one chunk, eight heads of each, are started together and waited for together:
  eight equal transfers on one semaphore.
-/
module

public import proofs.«01_k».proof.Proof.Moves

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A row of steps, each of which takes the state on by one. -/
theorem upTo_spec (c : Dev nD) (f : ℕ → P F PUnit) (J : ℕ → sProp 𝕄) (n : ℕ)
    (h : ∀ k, k < n → ∀ Kt : PUnit → sProp 𝕄, iprop(J k ∗ (J (k + 1) -∗ Kt ⟨⟩)) ⊢ runs c (f k) Kt) :
    ∀ m, m ≤ n → ∀ Kt : PUnit → sProp 𝕄, iprop(J 0 ∗ (J m -∗ Kt ⟨⟩)) ⊢ runs c (upTo f m) Kt := by
  intro m
  induction m with
  | zero =>
      intro _ Kt
      show _ ⊢ runs c (pure ⟨⟩) Kt
      unfold runs
      rw [Prog.pure_eq_ret, wp_ret]
      iintro ⟨H, Hk⟩
      imodintro
      iapply Hk; iexact H
  | succ m ih =>
      intro hm Kt
      show _ ⊢ runs c (upTo f m >>= fun _ => f m) Kt
      unfold runs
      rw [wp_bind]
      iintro ⟨H, Hk⟩
      iapply (ih (by omega) (fun _ => runs c (f m) Kt))
      isplitl [H]; · iexact H
      iintro H
      iapply (h m (by omega) Kt)
      isplitl [H]; · iexact H
      iexact Hk

/-- The heads from `k` on. -/
def heads (k : ℕ) : Finset (Fin 8) := Finset.univ.filter fun h => k ≤ h.val

theorem heads_zero : heads 0 = Finset.univ := by decide
theorem heads_succ (k : ℕ) (hk : k < 8) : heads k = insert ⟨k, hk⟩ (heads (k + 1)) := by
  ext h
  simp only [heads, Finset.mem_filter, Finset.mem_univ, true_and, Finset.mem_insert, Fin.ext_iff]
  omega
theorem heads_not_mem (k : ℕ) (hk : k < 8) : (⟨k, hk⟩ : Fin 8) ∉ heads (k + 1) := by
  simp only [heads, Finset.mem_filter, Finset.mem_univ, true_and]
  omega
theorem heads_take (k : ℕ) (hk : k < 8) (Φ : Fin 8 → sProp 𝕄) :
    bigSep (heads k) Φ = iprop(Φ ⟨k, hk⟩ ∗ bigSep (heads (k + 1)) Φ) := by
  rw [heads_succ k hk, bigSep_insert (heads_not_mem k hk)]; rfl

theorem ofNat_eq (k : ℕ) (hk : k < 8) : Fin.ofNat 8 k = ⟨k, hk⟩ := Fin.ext (Nat.mod_eq_of_lt hk)

section Copies
variable (I : Ins F) (c : Dev nD) (t : Fin 4) (h : Fin 8)

/-- The units of one copy. -/
def cpy : ℕ := (kvDst kbW 0 0).view.dmaCredit
theorem cpy_pos : 0 < cpy := View.dmaCredit_pos _ (by decide)
theorem cpy_k : (kvDst kbW t h).view.dmaCredit = cpy := rfl
theorem cpy_v : (kvDst vbW t h).view.dmaCredit = cpy := rfl

/-- Head `h`'s keys for chunk `t`, in the cache. -/
def kSrcP : sProp 𝕄 := iprop(((kW).view.loc (c : Thread nD τ) ↦[(kvSrc kW c t h).view.set]{fullShare} I.k c))
/-- Head `h`'s values for chunk `t`, in the cache. -/
def vSrcP : sProp 𝕄 := iprop(((vW).view.loc (c : Thread nD τ) ↦[(kvSrc vW c t h).view.set]{fullShare} I.v c))
/-- The place for head `h`'s keys. -/
def kDstP (f : Vec F S2x8x1x1024x128 .f32) : sProp 𝕄 :=
  iprop(((kbW).view.loc (c : Thread nD τ) ↦[(kvDst kbW t h).view.set]{fullShare} f))
/-- The place for head `h`'s values. -/
def vDstP (f : Vec F S2x8x1x1024x128 .f32) : sProp 𝕄 :=
  iprop(((vbW).view.loc (c : Thread nD τ) ↦[(kvDst vbW t h).view.set]{fullShare} f))

instance : BI.Storable (upEmb : UEmb _ 𝕄) (kSrcP I c t h) := by unfold kSrcP; infer_instance
instance : BI.Storable (upEmb : UEmb _ 𝕄) (vSrcP I c t h) := by unfold vSrcP; infer_instance
instance (f) : BI.Storable (upEmb : UEmb _ 𝕄) (kDstP (F := F) c t h f) := by unfold kDstP; infer_instance
instance (f) : BI.Storable (upEmb : UEmb _ 𝕄) (vDstP (F := F) c t h f) := by unfold vDstP; infer_instance

/-- A copy of keys, arrived. -/
def kDone : sProp 𝕄 := iprop(kDstP c t h (kvAt (I.k c) c t) ∗ kSrcP I c t h)
/-- A copy of values, arrived. -/
def vDone : sProp 𝕄 := iprop(vDstP c t h (kvAt (I.v c) c t) ∗ vSrcP I c t h)

instance : BI.Storable (upEmb : UEmb _ 𝕄) (kDone I c t h) := by unfold kDone; infer_instance
instance : BI.Storable (upEmb : UEmb _ 𝕄) (vDone I c t h) := by unfold vDone; infer_instance

abbrev kSem : SemLoc sig := .dma (sem2 cc0_scratch5 t)
abbrev vSem : SemLoc sig := .dma (sem2 cc0_scratch6 t)

theorem kSem_rank : rank (kind (kSem t)) = 0 := by revert t; decide
theorem vSem_rank : rank (kind (vSem t)) = 0 := by revert t; decide

/-- The copies of chunk `t`'s keys: `j` started, `u` units waited for. -/
abbrev kBatch (j u : ℕ) : sProp 𝕄 := Transfers.Batch EC (c : Thread nD τ) (kSem t) () cpy (kDone I c t) j u
abbrev vBatch (j u : ℕ) : sProp 𝕄 := Transfers.Batch EC (c : Thread nD τ) (vSem t) () cpy (vDone I c t) j u

/-- Everything one head's copies start from. -/
def ready : sProp 𝕄 := iprop(kSrcP I c t h ∗ (∃ f, kDstP c t h f) ∗ vSrcP I c t h ∗ ∃ f, vDstP c t h f)

theorem k_lands (fd : Vec F S2x8x1x1024x128 .f32) :
    iprop(((kvDst kbW t h).view.loc (c : Thread nD τ) ↦[(kvDst kbW t h).view.set]{fullShare}
        ((kvDst kbW t h).view.write (Elt F) fd ((kvSrc kW c t h).view.read (Elt F) (I.k c)) Finset.univ))
        ∗ ((kvSrc kW c t h).view.loc (c : Thread nD τ) ↦[(kvSrc kW c t h).view.set]{fullShare} (I.k c))) ⊢ kDone I c t h := by
  unfold kDone kDstP kSrcP
  rw [pointsTo_congr (copy_k c t h I fd)]

theorem v_lands (fd : Vec F S2x8x1x1024x128 .f32) :
    iprop(((kvDst vbW t h).view.loc (c : Thread nD τ) ↦[(kvDst vbW t h).view.set]{fullShare}
        ((kvDst vbW t h).view.write (Elt F) fd ((kvSrc vW c t h).view.read (Elt F) (I.v c)) Finset.univ))
        ∗ ((kvSrc vW c t h).view.loc (c : Thread nD τ) ↦[(kvSrc vW c t h).view.set]{fullShare} (I.v c))) ⊢ vDone I c t h := by
  unfold vDone vDstP vSrcP
  rw [pointsTo_congr (copy_v c t h I fd)]

theorem issue_spec (Kt : PUnit → sProp 𝕄) :
    iprop(kBatch I c t h.val 0 ∗ vBatch I c t h.val 0 ∗ ready I c t h
        ∗ (kBatch I c t (h.val + 1) 0 ∗ vBatch I c t (h.val + 1) 0 -∗ Kt ⟨⟩))
      ⊢ runs c (issueKV c t h) Kt := by
  unfold issueKV ready
  simp only [Prog.lift, Prog.bind_op, Prog.bind_ret]
  iintro ⟨HK, HV, ⟨Hks, ⟨%fk, Hkd⟩, Hvs, ⟨%fv, Hvd⟩⟩, Hk⟩
  unfold kSrcP kDstP vSrcP vDstP
  iapply (Transfers.wp_dmaBatch EC 𝒱₀ (c : Thread nD τ) none (src := kvSrc kW c t h) (dst := kvDst kbW t h) (via := .same)
      (sm := kSem t) (fs := I.k c) (fd := fk) (q := fullShare) (Sd := (kvDst kbW t h).view.set) (D := kDone I c t)
      () cpy (cpy_k t h) (subset_refl _) h.isLt (Nat.zero_le _) (k_lands I c t h fk)) $$ [Hks Hkd HK]
  · isplitl [Hks]; · iexact Hks
    isplitl [Hkd] <;> iassumption
  iintro HK
  iapply (Transfers.wp_dmaBatch EC 𝒱₀ (c : Thread nD τ) none (src := kvSrc vW c t h) (dst := kvDst vbW t h) (via := .same)
      (sm := vSem t) (fs := I.v c) (fd := fv) (q := fullShare) (Sd := (kvDst vbW t h).view.set) (D := vDone I c t)
      () cpy (cpy_v t h) (subset_refl _) h.isLt (Nat.zero_le _) (v_lands I c t h fv)) $$ [Hvs Hvd HV]
  · isplitl [Hvs]; · iexact Hvs
    isplitl [Hvd] <;> iassumption
  iintro HV
  rw [wp_ret]; imodintro
  iapply Hk
  isplitl [HK] <;> iassumption

/-- All copies of a chunk started. -/
theorem startKV_spec (Kt : PUnit → sProp 𝕄) :
    iprop(semVal ((c : Thread nD τ), kSem t) 0 ∗ semVal ((c : Thread nD τ), vSem t) 0
        ∗ bigSep Finset.univ (ready I c t) ∗ (kBatch I c t 8 0 ∗ vBatch I c t 8 0 -∗ Kt ⟨⟩))
      ⊢ runs c (startKV c t) Kt := by
  iintro ⟨HsK, HsV, HD, Hk⟩
  imod (Transfers.batch_alloc' (Lvl := ℕ) EC (c : Thread nD τ) () cpy (kDone I c t) (sm := kSem t) (E := Set.univ)) $$ HsK with HK
  imod (Transfers.batch_alloc' (Lvl := ℕ) EC (c : Thread nD τ) () cpy (vDone I c t) (sm := vSem t) (E := Set.univ)) $$ HsV with HV
  iapply (upTo_spec c (fun h => issueKV c t (Fin.ofNat 8 h))
    (fun k => iprop(kBatch I c t k 0 ∗ vBatch I c t k 0 ∗ bigSep (heads k) (ready I c t))) 8 (by
      intro k hk Kt
      rw [ofNat_eq k hk, heads_take k hk]
      iintro ⟨⟨HK, HV, Hr, HD⟩, Hk⟩
      iapply (issue_spec I c t ⟨k, hk⟩ Kt)
      isplitl [HK]; · iexact HK
      isplitl [HV]; · iexact HV
      isplitl [Hr]; · iexact Hr
      iintro ⟨HK, HV⟩
      iapply Hk
      isplitl [HK]; · iexact HK
      isplitl [HV] <;> iassumption) 8 (le_refl 8) Kt)
  rw [heads_zero]
  isplitl [HK HV HD]
  · isplitl [HK]; · iexact HK
    isplitl [HV] <;> iassumption
  iintro ⟨HK, HV, -⟩
  iapply Hk
  isplitl [HK] <;> iassumption

/-- All copies of a chunk waited for. -/
theorem awaitKV_spec (n : ℕ) (Kt : PUnit → sProp 𝕄) :
    iprop(levAts L lv ∗ owing c n ∗ kBatch I c t 8 0 ∗ vBatch I c t 8 0
        ∗ (owing c n ∗ bigSep Finset.univ (kDone I c t) ∗ bigSep Finset.univ (vDone I c t)
            ∗ semVal ((c : Thread nD τ), kSem t) 0 ∗ semVal ((c : Thread nD τ), vSem t) 0 -∗ Kt ⟨⟩))
      ⊢ runs c (upTo (fun h => awaitKV c t (Fin.ofNat 8 h)) 8) Kt := by
  have hP := cpy_pos
  show _ ⊢ runs c (upTo (fun h => awaitKV c t (Fin.ofNat 8 h)) 7 >>= fun _ => awaitKV c t (Fin.ofNat 8 7)) Kt
  unfold runs
  rw [wp_bind]
  iintro ⟨#HL, HO, HK, HV, Hk⟩
  iapply (upTo_spec c (fun h => awaitKV c t (Fin.ofNat 8 h))
    (fun k => iprop(levAts L lv ∗ owing c n ∗ kBatch I c t 8 (cpy * k) ∗ vBatch I c t 8 (cpy * k))) 7 (by
      intro k hk Kt
      unfold owing awaitKV
      simp only [Prog.lift, Prog.bind_op, Prog.bind_ret]
      iintro ⟨⟨#HL, ⟨%W, HO⟩, HK, HV⟩, Hk⟩
      iapply (Transfers.wp_waitBatchO EC 𝒱₀ (c : Thread nD τ) none () (cpy_k t _) (D := kDone I c t) (u := cpy * k)
        (by rw [← Nat.mul_succ]; exact Nat.mul_lt_mul_of_pos_left (by omega) hP) (O := due c n) (W := W)) $$ [HK HO]
      · isplitl [HK]; · iexact HK
        isplitl [HO]; · iexact HO
        iapply (mayWait_zero c (kSem t) n (kSem_rank t)); iexact HL
      iintro ⟨HK, HO⟩
      iapply (Transfers.wp_waitBatchO EC 𝒱₀ (c : Thread nD τ) none () (cpy_v t _) (D := vDone I c t) (u := cpy * k)
        (by rw [← Nat.mul_succ]; exact Nat.mul_lt_mul_of_pos_left (by omega) hP) (O := due c n)) $$ [HV HO]
      · isplitl [HV]; · iexact HV
        isplitl [HO]; · iexact HO
        iapply (mayWait_zero c (vSem t) n (vSem_rank t)); iexact HL
      iintro ⟨HV, HO⟩
      rw [wp_ret]; imodintro
      iapply Hk
      isplitr; · iexact HL
      isplitl [HO]; · iexists _; iexact HO
      rw [Nat.mul_succ]
      isplitl [HK] <;> iassumption) 7 (le_refl 7) _)
  rw [Nat.mul_zero]
  isplitl [HO HK HV]
  · isplitr; · iexact HL
    isplitl [HO]; · iexact HO
    isplitl [HK] <;> iassumption
  iintro ⟨-, HO, HK, HV⟩
  unfold owing awaitKV
  simp only [Prog.lift, Prog.bind_op, Prog.bind_ret]
  icases HO with ⟨%W, HO⟩
  iapply (Transfers.wp_waitBatchLastO EC 𝒱₀ (c : Thread nD τ) none () (cpy_k t _) hP (D := kDone I c t) (u := cpy * 7)
    (by rw [← Nat.mul_succ]) (O := due c n) (W := W)) $$ [HK HO]
  · isplitl [HK]; · iexact HK
    isplitl [HO]; · iexact HO
    iapply (mayWait_zero c (kSem t) n (kSem_rank t)); iexact HL
  iintro ⟨HK, HsK, HO⟩
  iapply (Transfers.wp_waitBatchLastO EC 𝒱₀ (c : Thread nD τ) none () (cpy_v t _) hP (D := vDone I c t) (u := cpy * 7)
    (by rw [← Nat.mul_succ]) (O := due c n)) $$ [HV HO]
  · isplitl [HV]; · iexact HV
    isplitl [HO]; · iexact HO
    iapply (mayWait_zero c (vSem t) n (vSem_rank t)); iexact HL
  iintro ⟨HV, HsV, HO⟩
  rw [wp_ret]; imodintro
  iapply Hk
  isplitl [HO]; · iexists _; iexact HO
  isplitl [HK]; · iexact HK
  isplitl [HV]; · iexact HV
  isplitl [HsK] <;> iassumption

end Copies

end Cert.KernelIdeal.Body
-- ==== Proof.Compute.lean ====
/-
  One chunk's work: its queries, its eight heads, its partial product.
-/
module

public import proofs.«01_k».proof.Proof.Copies

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Compute
variable (I : Ins F) (c : Dev nD) (t : Fin 4) (h : Fin 8)

/-- The activations and weights on chip. -/
def held : sProp 𝕄 :=
  iprop(((xW).view.loc (c : Thread nD τ) ↦{fullShare} I.x c) ∗ ((wqW).view.loc (c : Thread nD τ) ↦{fullShare} I.wq c)
    ∗ ((woW).view.loc (c : Thread nD τ) ↦{fullShare} I.wo c))
/-- The heads' outputs. -/
def attnP (g : Vec F S256x1024 .f32) : sProp 𝕄 := iprop(((aW).view.loc (c : Thread nD τ) ↦{fullShare} g))

theorem load_set {sp : CoreSpace} {s : Shape} {e : EltTy} (m : Memref sig .tc sp s e) (r : Rect s) :
    m.view.setOn r.toLoadRect.set = (m.access r).set := (View.set_slice m.view r).symm

theorem kb_sub : kbW.view.setOn (Rect.unit (s := S2x8x1x1024x128) ![slot t, h.val, 0, 0, 0] S1x1x1x1024x128.size (bufInb t h)).toLoadRect.set
    ⊆ (kvDst kbW t h).view.set := by
  rw [load_set]; exact (View.set_reshape _ _).symm.subset
theorem vb_sub : vbW.view.setOn (Rect.unit (s := S2x8x1x1024x128) ![slot t, h.val, 0, 0, 0] S1x1x1x1024x128.size (bufInb t h)).toLoadRect.set
    ⊆ (kvDst vbW t h).view.set := by
  rw [load_set]; exact (View.set_reshape _ _).symm.subset
theorem part_sub : pW.view.setOn (Rect.unit (s := S2x256x1024) ![slot t, 0, 0] S1x256x1024.size (partInb t)).toLoadRect.set
    ⊆ (partM t).view.set := by
  rw [load_set]; exact (View.set_reshape _ _).symm.subset
theorem land_sub (r : Fin 3) : rW.view.setOn (Rect.unit (s := S1x3x256x1024) ![0, r.val, 0, 0] S1x1x256x1024.size (landInb r)).toLoadRect.set
    ⊆ (landM r).view.set := by
  rw [load_set]; exact (View.set_reshape _ _).symm.subset
theorem own_sub : oW.view.setOn (Rect.unit (s := S4x256x1024) (k0_off10 c) S1x256x1024.size (k0_off10_inb c)).toLoadRect.set
    ⊆ (ownM c).view.set := by
  rw [load_set, own_set]

theorem queries_spec (Kt : FVec F S256x1024 .f32 → sProp 𝕄) :
    iprop(held I c ∗ (held I c -∗ Kt (qv I c t))) ⊢ runs c (queries c t) Kt := by
  unfold queries held
  simp only [Prog.lift, Prog.bind_op, Prog.bind_ret, Prog.pure_eq_ret]
  iintro ⟨⟨Hx, Hq, Ho⟩, Hk⟩
  iapply (wp_load 𝒱₀ (c : Thread nD τ) none Set.univ (m := xW) (Finset.subset_univ _)) $$ Hx; iintro Hx
  iapply (wp_load 𝒱₀ (c : Thread nD τ) none Set.univ (m := wqW) (Finset.subset_univ _)) $$ Hq; iintro Hq
  have hq : _ = qv I c t := congrArg₂ k0_pay1 (read_x c t (I.x c)) (read_wq (I.wq c))
  rw [wp_ret, hq]; imodintro
  iapply Hk
  isplitl [Hx]; · iexact Hx
  isplitl [Hq] <;> iassumption

theorem head_spec (Kt : PUnit → sProp 𝕄) :
    iprop(kDone I c t h ∗ vDone I c t h ∗ (∃ g, ⌜Upto I c t h.val g⌝ ∗ attnP c g)
        ∗ (kDone I c t h ∗ vDone I c t h ∗ (∃ g, ⌜Upto I c t (h.val + 1) g⌝ ∗ attnP c g) -∗ Kt ⟨⟩))
      ⊢ runs c (head t (qv I c t) h) Kt := by
  unfold head kDone vDone kDstP vDstP attnP
  simp only [Prog.lift, Prog.bind_op, Prog.bind_ret, Prog.pure_eq_ret]
  iintro ⟨⟨HK, Hks⟩, ⟨HV, Hvs⟩, ⟨%g, %hg, Ha⟩, Hk⟩
  iapply (wp_load 𝒱₀ (c : Thread nD τ) none Set.univ (m := kbW) (kb_sub t h)) $$ HK; iintro HK
  iapply (wp_load 𝒱₀ (c : Thread nD τ) none Set.univ (m := vbW) (vb_sub t h)) $$ HV; iintro HV
  iapply (wp_load 𝒱₀ (c : Thread nD τ) none Set.univ (m := aW) (Finset.subset_univ _)) $$ Ha; iintro Ha
  rw [read_kb, read_vb]
  iapply (wp_store 𝒱₀ (c : Thread nD τ) none Set.univ (m := aW)
    (r := Rect.unit (s := S256x1024) ![0, 128 * h.val] S256x128.size (colInb h)) (Mk := Finset.univ) (Finset.subset_univ _)) $$ Ha
  iintro Ha
  rw [wp_ret]; imodintro
  iapply Hk
  isplitl [HK Hks]; · isplitl [HK] <;> iassumption
  isplitl [HV Hvs]; · isplitl [HV] <;> iassumption
  iexists _
  isplitr
  rotate_left
  · iexact Ha
  · ipureintro; exact upto_succ I c t h hg

theorem heads_spec (Kt : PUnit → sProp 𝕄) :
    iprop(bigSep Finset.univ (kDone I c t) ∗ bigSep Finset.univ (vDone I c t) ∗ (∃ g, attnP c g)
        ∗ (bigSep Finset.univ (kDone I c t) ∗ bigSep Finset.univ (vDone I c t) ∗ attnP c (attnAt I c t) -∗ Kt ⟨⟩))
      ⊢ runs c (upTo (fun h => head t (qv I c t) (Fin.ofNat 8 h)) 8) Kt := by
  iintro ⟨HK, HV, ⟨%g, Ha⟩, Hk⟩
  iapply (upTo_spec c (fun h => head t (qv I c t) (Fin.ofNat 8 h))
    (fun k => iprop(bigSep Finset.univ (kDone I c t) ∗ bigSep Finset.univ (vDone I c t)
      ∗ ∃ g, ⌜Upto I c t k g⌝ ∗ attnP c g)) 8 (by
      intro k hk Kt
      rw [ofNat_eq k hk, bigSep_univ_at (kDone I c t) ⟨k, hk⟩, bigSep_univ_at (vDone I c t) ⟨k, hk⟩]
      iintro ⟨⟨⟨HK, HKr⟩, ⟨HV, HVr⟩, Ha⟩, Hk⟩
      iapply (head_spec I c t ⟨k, hk⟩ Kt)
      isplitl [HK]; · iexact HK
      isplitl [HV]; · iexact HV
      isplitl [Ha]; · iexact Ha
      iintro ⟨HK, HV, Ha⟩
      iapply Hk
      isplitl [HK HKr]; · isplitl [HK] <;> iassumption
      isplitl [HV HVr]; · isplitl [HV] <;> iassumption
      iexact Ha) 8 (le_refl 8) Kt)
  isplitl [HK HV Ha]
  · isplitl [HK]; · iexact HK
    isplitl [HV]; · iexact HV
    iexists g
    isplitr; · ipureintro; exact upto_zero I c t g
    iexact Ha
  iintro ⟨HK, HV, ⟨%g', %hg, Ha⟩⟩
  iapply Hk
  isplitl [HK]; · iexact HK
  isplitl [HV]; · iexact HV
  rw [← upto_all I c t hg]
  iexact Ha

theorem stored_part (f : Vec F S2x256x1024 .f32) (w : Vec F S1x256x1024 .f32) (hw : w = part I c t) :
    (iprop((pW).view.loc (c : Thread nD τ) ↦[(partM t).view.set]{fullShare} (partAcc t).write (Elt F) f w Finset.univ) : sProp 𝕄)
      ⊢ partAtP c t (partAt I c t) := by
  subst hw
  exact Entails.of_eq (pointsTo_congr (store_part I c t f))

theorem project_spec (Kt : PUnit → sProp 𝕄) :
    iprop(held I c ∗ attnP c (attnAt I c t) ∗ (∃ f, partAtP c t f)
        ∗ (held I c ∗ attnP c (attnAt I c t) ∗ partAtP c t (partAt I c t) -∗ Kt ⟨⟩))
      ⊢ runs c (project t) Kt := by
  unfold project held attnP
  rw [show (iprop(∃ f, partAtP c t f) : sProp 𝕄) = iprop(∃ f, (pW).view.loc (c : Thread nD τ) ↦[(partM t).view.set]{fullShare} f) from rfl]
  simp only [Prog.lift, Prog.bind_op, Prog.bind_ret, Prog.pure_eq_ret]
  iintro ⟨⟨Hx, Hq, Ho⟩, Ha, ⟨%f, Hp⟩, Hk⟩
  iapply (wp_load 𝒱₀ (c : Thread nD τ) none Set.univ (m := aW) (Finset.subset_univ _)) $$ Ha; iintro Ha
  iapply (wp_load 𝒱₀ (c : Thread nD τ) none Set.univ (m := woW) (Finset.subset_univ _)) $$ Ho; iintro Ho
  iapply (wp_load 𝒱₀ (c : Thread nD τ) none Set.univ (m := pW) (part_sub t)) $$ Hp; iintro Hp
  rw [read_attn, read_wo]
  iapply (wp_store 𝒱₀ (c : Thread nD τ) none Set.univ (m := pW)
    (r := Rect.unit (s := S2x256x1024) ![slot t, 0, 0] S1x256x1024.size (partInb t)) (Mk := Finset.univ)
    (S := (partM t).view.set) (partAcc_set t).symm.subset) $$ Hp
  iintro Hp
  rw [wp_ret]; imodintro
  iapply Hk
  isplitl [Hx Hq Ho]
  · isplitl [Hx]; · iexact Hx
    isplitl [Hq] <;> iassumption
  isplitl [Ha]; · iexact Ha
  iapply (stored_part I c t f (k0_pay16 (attnAt I c t) (I.wo c)) rfl) $$ Hp

/-- The whole of a chunk's work, the copies of its keys and values under way before. -/
theorem compute_spec (n : ℕ) (Kt : PUnit → sProp 𝕄) :
    iprop(levAts L lv ∗ owing c n ∗ held I c ∗ kBatch I c t 8 0 ∗ vBatch I c t 8 0 ∗ (∃ g, attnP c g) ∗ (∃ f, partAtP c t f)
        ∗ (owing c n ∗ held I c ∗ bigSep Finset.univ (kDone I c t) ∗ bigSep Finset.univ (vDone I c t)
            ∗ semVal ((c : Thread nD τ), kSem t) 0 ∗ semVal ((c : Thread nD τ), vSem t) 0
            ∗ (∃ g, attnP c g) ∗ partAtP c t (partAt I c t) -∗ Kt ⟨⟩))
      ⊢ runs c (compute c t) Kt := by
  unfold compute runs
  rw [wp_bind]
  iintro ⟨#HL, HO, Hh, HK, HV, Ha, Hp, Hk⟩
  iapply (queries_spec I c t)
  isplitl [Hh]; · iexact Hh
  iintro Hh
  rw [wp_bind]
  iapply (awaitKV_spec I c t n)
  isplitr; · iexact HL
  isplitl [HO]; · iexact HO
  isplitl [HK]; · iexact HK
  isplitl [HV]; · iexact HV
  iintro ⟨HO, HK, HV, HsK, HsV⟩
  rw [wp_bind]
  iapply (heads_spec I c t)
  isplitl [HK]; · iexact HK
  isplitl [HV]; · iexact HV
  isplitl [Ha]; · iexact Ha
  iintro ⟨HK, HV, Ha⟩
  iapply (project_spec I c t)
  isplitl [Hh]; · iexact Hh
  isplitl [Ha]; · iexact Ha
  isplitl [Hp]; · iexact Hp
  iintro ⟨Hh, Ha, Hp⟩
  iapply Hk
  isplitl [HO]; · iexact HO
  isplitl [Hh]; · iexact Hh
  isplitl [HK]; · iexact HK
  isplitl [HV]; · iexact HV
  isplitl [HsK]; · iexact HsK
  isplitl [HsV]; · iexact HsV
  isplitl [Ha]; · iexists _; iexact Ha
  iexact Hp

end Compute

end Cert.KernelIdeal.Body
-- ==== Proof.Exchange.lean ====
/-
  The sums' exchanges, the sum, the gathering of the sums, and the last waits.
-/
module

public import proofs.«01_k».proof.Proof.Compute

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Total
variable (I : Ins F) (c : Dev nD)

theorem stored_own (f : Vec F S4x256x1024 .f32) (w : Vec F S1x256x1024 .f32) (hw : w = tot I c) :
    (iprop((oW).view.loc (c : Thread nD τ) ↦[(ownM c).view.set]{fullShare} (ownAcc c).write (Elt F) f w Finset.univ) : sProp 𝕄)
      ⊢ outP c (ownM c).view.set fullShare (fin I) := by
  subst hw
  exact Entails.of_eq (pointsTo_congr (store_own I c f))

theorem tot_eq {p : Vec F S1x256x1024 .f32} {a0 a1 a2 : Vec F S1x1x256x1024 .f32} (hp : p = part I c 3)
    (h0 : a0 = fun i => landed I c 0 (ValueIdx.ix3 (i 1) (i 2) (i 3))) (h1 : a1 = fun i => landed I c 1 (ValueIdx.ix3 (i 1) (i 2) (i 3)))
    (h2 : a2 = fun i => landed I c 2 (ValueIdx.ix3 (i 1) (i 2) (i 3))) : k0_pay74 p a0 a1 a2 = tot I c := by
  subst hp h0 h1 h2; rfl

/-- What has landed. -/
def allLanded : sProp 𝕄 := iprop(landP c 0 (landAt I c) ∗ landP c 1 (landAt I c) ∗ landP c 2 (landAt I c))

theorem total_spec (Kt : PUnit → sProp 𝕄) :
    iprop(partAtP c 3 (partAt I c 3) ∗ allLanded I c ∗ (∃ f, outP c (ownM c).view.set fullShare f)
        ∗ (partAtP c 3 (partAt I c 3) ∗ allLanded I c ∗ outP c (ownM c).view.set fullShare (fin I) -∗ Kt ⟨⟩))
      ⊢ runs c (total c) Kt := by
  unfold total allLanded partAtP landP
  rw [show (iprop(∃ f, outP c (ownM c).view.set fullShare f) : sProp 𝕄)
    = iprop(∃ f, (oW).view.loc (c : Thread nD τ) ↦[(ownM c).view.set]{fullShare} f) from rfl]
  simp only [Prog.lift, Prog.bind_op, Prog.bind_ret, Prog.pure_eq_ret]
  iintro ⟨Hp, ⟨H0, H1, H2⟩, ⟨%f, Ho⟩, Hk⟩
  iapply (wp_load 𝒱₀ (c : Thread nD τ) none Set.univ (m := pW) (part_sub 3)) $$ Hp; iintro Hp
  iapply (wp_load 𝒱₀ (c : Thread nD τ) none Set.univ (m := rW) (land_sub 0)) $$ H0; iintro H0
  iapply (wp_load 𝒱₀ (c : Thread nD τ) none Set.univ (m := rW) (land_sub 1)) $$ H1; iintro H1
  iapply (wp_load 𝒱₀ (c : Thread nD τ) none Set.univ (m := rW) (land_sub 2)) $$ H2; iintro H2
  iapply (wp_load 𝒱₀ (c : Thread nD τ) none Set.univ (m := oW) (own_sub c)) $$ Ho; iintro Ho
  iapply (wp_store 𝒱₀ (c : Thread nD τ) none Set.univ (m := oW)
    (r := Rect.unit (s := S4x256x1024) (k0_off10 c) S1x256x1024.size (k0_off10_inb c)) (Mk := Finset.univ)
    (S := (ownM c).view.set) (own_set c).symm.subset) $$ Ho
  iintro Ho
  rw [wp_ret]; imodintro
  iapply Hk
  isplitl [Hp]; · iexact Hp
  isplitl [H0 H1 H2]
  · isplitl [H0]; · iexact H0
    isplitl [H1] <;> iassumption
  have hp : pW.view.readAt (Elt F) (Rect.unit (s := S2x256x1024) ![slot 3, 0, 0] S1x256x1024.size (partInb 3)).toLoadRect
      (partAt I c 3) = part I c 3 := read_part I c
  iapply (stored_own I c f _ (tot_eq I c hp (read_land I c 0) (read_land I c 1) (read_land I c 2))) $$ Ho

end Total

section Exchange
variable (I : Ins F) (K : Dev nD × Cell → ℕ) (c : Dev nD)

/-! ## The partial products -/

abbrev xs (r : Fin 3) : Exch := Fin.castLE (by decide) r

theorem sendPay_rs (r : Fin 3) : sendPay I c (xs r) = partAtP c r.castSucc (partAt I c r.castSucc) := by
  match r with
  | 0 => rfl
  | 1 => rfl
  | 2 => rfl
theorem recvPay_rs (r : Fin 3) : recvPay I c (xs r) = landP c r (landAt I c) := by
  match r with
  | 0 => rfl
  | 1 => rfl
  | 2 => rfl
theorem rsDev_goal (r : Fin 3) : rsDev c r = goal (xs r) c := by
  match r with
  | 0 => exact Fin.ext (k0_dev4_eq c)
  | 1 => exact Fin.ext (k0_dev5_eq c)
  | 2 => exact Fin.ext (k0_dev6_eq c)
theorem rs_back (r : Fin 3) : turn (r.val + 1) (goal (xs r) c) = c := by
  match r with
  | 0 => exact (turn_turn ..).trans (turn_four c)
  | 1 => exact (turn_turn ..).trans (turn_four c)
  | 2 => exact (turn_turn ..).trans (turn_four c)
theorem due_rs (r : Fin 3) : due c (3 + r.val) = due c (3 + r.val + 1) + tallyAt (recvCell (goal (xs r) c) (xs r)) () (amt (xs r)) := by
  match r with
  | 0 => rfl
  | 1 => rfl
  | 2 => rfl
theorem sendS_rs (r : Fin 3) : SemLoc.dma (sem3 cc0_scratch7 r) = csem (some (xs r, false)) := by
  match r with
  | 0 => rfl
  | 1 => rfl
  | 2 => rfl
theorem recvS_rs (r : Fin 3) : SemLoc.dma (sem3 cc0_scratch8 r) = csem (some (xs r, true)) := by
  match r with
  | 0 => rfl
  | 1 => rfl
  | 2 => rfl
theorem credit_land (r : Fin 3) : (landM r).view.dmaCredit = amt (xs r) := by
  match r with
  | 0 => rfl
  | 1 => rfl
  | 2 => rfl
theorem credit_part (r : Fin 3) : (partM r.castSucc).view.dmaCredit = amt (xs r) := by
  match r with
  | 0 => rfl
  | 1 => rfl
  | 2 => rfl

theorem rsSend_spec (r : Fin 3) (Kt : PUnit → sProp 𝕄) :
    iprop(records I K ∗ partAtP c r.castSucc (partAt I c r.castSucc) ∗ (∃ f, landP (goal (xs r) c) r f)
        ∗ owing c (3 + r.val) ∗ dutyTok ER (sendCell c (xs r)) 0 0 ∗ dutyTok ER (recvCell (goal (xs r) c) (xs r)) 0 0
        ∗ (cred (tallyAt (sendCell c (xs r)) () (amt (xs r))) ∗ owing c (3 + r.val + 1) -∗ Kt ⟨⟩))
      ⊢ runs c (rsSend c r) Kt := by
  unfold rsSend
  iintro ⟨HR, Hs, ⟨%f, Hd⟩, HO, Ht1, Ht2, Hk⟩
  iapply (send_spec I K (src := partM r.castSucc) (dst := landM r) c (xs r) (rsDev_goal c r) (sendS_rs r) (recvS_rs r)
    fullShare (partAt I c r.castSucc) f (credit_land r) (3 + r.val) (due_rs c r)
    (Entails.of_eq (sendPay_rs I c r).symm)
    (by
      rw [recvPay_rs]
      refine Entails.of_eq (pointsTo_congr fun i hi => ?_)
      have h := copy_part (goal (xs r) c) r I f i hi
      rw [rs_back] at h
      exact h) Kt)
  unfold partAtP landP
  isplitl [HR]; · iexact HR
  isplitl [Hs]; · iexact Hs
  isplitl [Hd]; · iexact Hd
  isplitl [HO]; · iexact HO
  isplitl [Ht1]; · iexact Ht1
  isplitl [Ht2]; · iexact Ht2
  iexact Hk

/-- A wait for a cell of an exchange, the wait rules given. -/
theorem rsWaitSend_spec (r : Fin 3) (n : ℕ) (Kt : PUnit → sProp 𝕄) :
    iprop(records I K ∗ levAts L lv ∗ owing c n ∗ atPos ER (sendCell c (xs r)) 0 ∅ 0
        ∗ cred (tallyAt (sendCell c (xs r)) () (amt (xs r)))
        ∗ (owing c n ∗ semVal (sendCell c (xs r)) 0 ∗ partAtP c r.castSucc (partAt I c r.castSucc) -∗ Kt ⟨⟩))
      ⊢ runs c (rsWaitSend r) Kt := by
  rw [← sendPay_rs]
  exact wait_spec I K c (xs r, false) (sendS_rs r) (credit_part r) n
    (mayWait_zero c _ n (by rw [kind_csem]; rfl)) Kt

theorem rsWaitRecv_spec (r : Fin 3) (Kt : PUnit → sProp 𝕄) :
    iprop(records I K ∗ levAts L lv ∗ owing c 6 ∗ atPos ER (recvCell c (xs r)) 0 ∅ 0
        ∗ cred (tallyAt (recvCell c (xs r)) () (amt (xs r)))
        ∗ (owing c 6 ∗ semVal (recvCell c (xs r)) 0 ∗ landP c r (landAt I c) -∗ Kt ⟨⟩))
      ⊢ runs c (rsWaitRecv r) Kt := by
  rw [← recvPay_rs]
  exact wait_spec I K c (xs r, true) (recvS_rs r) (credit_land r) 6 (mayWait_land c r) Kt

/-! ## The gather -/

theorem own_prev : (ownM c).view.set = outSet (turn 1 c) 0 := by
  ext i; exact (mem_own c i).trans (mem_prev (turn 1 c) i).symm
theorem own_next : (ownM c).view.set = outSet (turn 3 c) 1 := by
  ext i
  refine (mem_own c i).trans (Iff.trans ?_ (mem_next (turn 3 c) i).symm)
  rw [show ((turn 3 c).val + 2) % 4 = (c.val + 1) % 4 from by show ((c.val + 3) % 4 + 2) % 4 = _; omega]
theorem prevTop_opp : (prevTopM c).view.set = outSet (turn 1 c) 2 := by
  ext i
  refine (mem_prevTop c i).trans (Iff.trans ?_ (mem_oppTop (turn 1 c) i).symm)
  rw [show ((turn 1 c).val + 3) % 4 = c.val from by have h : c.val < 4 := c.isLt; show ((c.val + 1) % 4 + 3) % 4 = _; omega]
theorem nextLow_opp : (nextLowM c).view.set = outSet (turn 3 c) 3 := by
  ext i
  refine (mem_nextLow c i).trans (Iff.trans ?_ (mem_oppLow (turn 3 c) i).symm)
  rw [show ((turn 3 c).val + 3) % 4 = (c.val + 2) % 4 from by show ((c.val + 3) % 4 + 3) % 4 = _; omega]

/-- One copy of the gather: a window of the result to the same window of another device's. -/
theorem agSend_spec (R : Rect S4x256x1024) (hr : ∀ a, R.stride a = 1) (hm : (oW.slice R hr).view.WordExact) (p : Dev nD) (e : Exch) (r : Fin 4)
    (q : PosShare TreeShare) (k : ℕ) (hp : p = goal e c) (hS : SemLoc.dma (sem4 cc0_scratch9 r) = csem (some (e, false)))
    (hR : SemLoc.dma (sem4 cc0_scratch10 r) = csem (some (e, true))) (hN : (oW.slice R hr).view.dmaCredit = amt e)
    (hdue : due c k = due c (k + 1) + tallyAt (recvCell (goal e c) e) () (amt e))
    (h₁ : outP c (oW.slice R hr).view.set q (fin I) ⊢ sendPay I c e)
    (h₂ : outP (goal e c) (oW.slice R hr).view.set fullShare (fin I) ⊢ recvPay I (goal e c) e) (Kt : PUnit → sProp 𝕄) :
    iprop(records I K ∗ outP c (oW.slice R hr).view.set q (fin I) ∗ (∃ f, outP (goal e c) (oW.slice R hr).view.set fullShare f)
        ∗ owing c k ∗ dutyTok ER (sendCell c e) 0 0 ∗ dutyTok ER (recvCell (goal e c) e) 0 0
        ∗ (cred (tallyAt (sendCell c e) () (amt e)) ∗ owing c (k + 1) -∗ Kt ⟨⟩))
      ⊢ runs c (agSend (oW.slice R hr) hm p r) Kt := by
  unfold agSend
  iintro ⟨HR, Hs, ⟨%f, Hd⟩, HO, Ht1, Ht2, Hk⟩
  iapply (send_spec I K (src := oW.slice R hr) (dst := oW.slice R hr) c e hp hS hR q (fin I) f hN k hdue h₁
    ((Entails.of_eq (pointsTo_congr fun i hi => write_self (oW.slice R hr).view f (fin I) i hi)).trans h₂) Kt)
  unfold outP
  isplitl [HR]; · iexact HR
  isplitl [Hs]; · iexact Hs
  isplitl [Hd]; · iexact Hd
  isplitl [HO]; · iexact HO
  isplitl [Ht1]; · iexact Ht1
  isplitl [Ht2]; · iexact Ht2
  iexact Hk

theorem credit_3 : (ownM c).view.dmaCredit = amt 3 := rfl
theorem credit_4 : (ownM c).view.dmaCredit = amt 4 := rfl
theorem credit_5 : (prevTopM c).view.dmaCredit = amt 5 := rfl
theorem credit_6 : (nextLowM c).view.dmaCredit = amt 6 := rfl

theorem send3_spec (Kt : PUnit → sProp 𝕄) :
    iprop(records I K ∗ outP c (ownM c).view.set fullShare.left (fin I) ∗ spot (turn 1 c) 3
        ∗ owing c 6 ∗ dutyTok ER (sendCell c 3) 0 0 ∗ dutyTok ER (recvCell (goal 3 c) 3) 0 0
        ∗ (cred (tallyAt (sendCell c 3) () (amt 3)) ∗ owing c (6 + 1) -∗ Kt ⟨⟩))
      ⊢ runs c (agSend (ownM c) (View.wordExact_bits rfl) ⟨k0_dev7 c, k0_dev7_lt c⟩ 0) Kt := by
  have hs : (iprop(∃ f, outP (goal 3 c) (ownM c).view.set fullShare f) : sProp 𝕄) = spot (turn 1 c) 3 := by
    rw [own_prev c]; rfl
  rw [← hs]
  have h1 : SemLoc.dma (sem4 cc0_scratch9 0) = csem (some (3, false)) := rfl
  have h2 : SemLoc.dma (sem4 cc0_scratch10 0) = csem (some (3, true)) := rfl
  have h3 := credit_3 c
  have h4 : due c 6 = due c (6 + 1) + tallyAt (recvCell (goal 3 c) 3) () (amt 3) := rfl
  have h5 : outP c (ownM c).view.set fullShare.left (fin I) ⊢ sendPay I c 3 := .rfl
  exact agSend_spec I K c (Rect.unit (s := S4x256x1024) (k0_off11 c 1#32) S1x256x1024.size (k0_off11_inb c 0))
    (fun _ => rfl) (View.wordExact_bits rfl) ⟨k0_dev7 c, k0_dev7_lt c⟩ 3 0 fullShare.left 6 (Fin.ext (k0_dev7_eq c)) h1 h2 h3 h4 h5
    (Entails.of_eq (congrArg (fun S => outP (goal 3 c) S fullShare (fin I)) (own_prev c))) Kt

theorem send4_spec (Kt : PUnit → sProp 𝕄) :
    iprop(records I K ∗ outP c (ownM c).view.set fullShare.right (fin I) ∗ spot (turn 3 c) 4
        ∗ owing c 7 ∗ dutyTok ER (sendCell c 4) 0 0 ∗ dutyTok ER (recvCell (goal 4 c) 4) 0 0
        ∗ (cred (tallyAt (sendCell c 4) () (amt 4)) ∗ owing c (7 + 1) -∗ Kt ⟨⟩))
      ⊢ runs c (agSend (ownM c) (View.wordExact_bits rfl) ⟨k0_dev8 c, k0_dev8_lt c⟩ 1) Kt := by
  have hs : (iprop(∃ f, outP (goal 4 c) (ownM c).view.set fullShare f) : sProp 𝕄) = spot (turn 3 c) 4 := by
    rw [own_next c]; rfl
  rw [← hs]
  have h1 : SemLoc.dma (sem4 cc0_scratch9 1) = csem (some (4, false)) := rfl
  have h2 : SemLoc.dma (sem4 cc0_scratch10 1) = csem (some (4, true)) := rfl
  have h3 := credit_4 c
  have h4 : due c 7 = due c (7 + 1) + tallyAt (recvCell (goal 4 c) 4) () (amt 4) := rfl
  have h5 : outP c (ownM c).view.set fullShare.right (fin I) ⊢ sendPay I c 4 := .rfl
  exact agSend_spec I K c (Rect.unit (s := S4x256x1024) (k0_off11 c 1#32) S1x256x1024.size (k0_off11_inb c 0))
    (fun _ => rfl) (View.wordExact_bits rfl) ⟨k0_dev8 c, k0_dev8_lt c⟩ 4 1 fullShare.right 7 (Fin.ext (k0_dev8_eq c)) h1 h2 h3 h4 h5
    (Entails.of_eq (congrArg (fun S => outP (goal 4 c) S fullShare (fin I)) (own_next c))) Kt

theorem send5_spec (Kt : PUnit → sProp 𝕄) :
    iprop(records I K ∗ outP c (prevTopM c).view.set fullShare (fin I) ∗ spot (turn 1 c) 5
        ∗ owing c 8 ∗ dutyTok ER (sendCell c 5) 0 0 ∗ dutyTok ER (recvCell (goal 5 c) 5) 0 0
        ∗ (cred (tallyAt (sendCell c 5) () (amt 5)) ∗ owing c (8 + 1) -∗ Kt ⟨⟩))
      ⊢ runs c (agSend (prevTopM c) (View.wordExact_bits rfl) ⟨k0_dev9 c, k0_dev9_lt c⟩ 2) Kt := by
  have hs : (iprop(∃ f, outP (goal 5 c) (prevTopM c).view.set fullShare f) : sProp 𝕄) = spot (turn 1 c) 5 := by
    rw [prevTop_opp c]; rfl
  rw [← hs]
  have h1 : SemLoc.dma (sem4 cc0_scratch9 2) = csem (some (5, false)) := rfl
  have h2 : SemLoc.dma (sem4 cc0_scratch10 2) = csem (some (5, true)) := rfl
  have h3 := credit_5 c
  have h4 : due c 8 = due c (8 + 1) + tallyAt (recvCell (goal 5 c) 5) () (amt 5) := rfl
  have h5 : outP c (prevTopM c).view.set fullShare (fin I) ⊢ sendPay I c 5 := .rfl
  exact agSend_spec I K c (Rect.unit (s := S4x256x1024) (k0_off13 c) S1x128x1024.size (k0_off13_inb c))
    (fun _ => rfl) (View.wordExact_bits rfl) ⟨k0_dev9 c, k0_dev9_lt c⟩ 5 2 fullShare 8 (Fin.ext (k0_dev9_eq c)) h1 h2 h3 h4 h5
    (Entails.of_eq (congrArg (fun S => outP (goal 5 c) S fullShare (fin I)) (prevTop_opp c))) Kt

theorem send6_spec (Kt : PUnit → sProp 𝕄) :
    iprop(records I K ∗ outP c (nextLowM c).view.set fullShare (fin I) ∗ spot (turn 3 c) 6
        ∗ owing c 9 ∗ dutyTok ER (sendCell c 6) 0 0 ∗ dutyTok ER (recvCell (goal 6 c) 6) 0 0
        ∗ (cred (tallyAt (sendCell c 6) () (amt 6)) ∗ owing c (9 + 1) -∗ Kt ⟨⟩))
      ⊢ runs c (agSend (nextLowM c) (View.wordExact_bits rfl) ⟨k0_dev10 c, k0_dev10_lt c⟩ 3) Kt := by
  have hs : (iprop(∃ f, outP (goal 6 c) (nextLowM c).view.set fullShare f) : sProp 𝕄) = spot (turn 3 c) 6 := by
    rw [nextLow_opp c]; rfl
  rw [← hs]
  have h1 : SemLoc.dma (sem4 cc0_scratch9 3) = csem (some (6, false)) := rfl
  have h2 : SemLoc.dma (sem4 cc0_scratch10 3) = csem (some (6, true)) := rfl
  have h3 := credit_6 c
  have h4 : due c 9 = due c (9 + 1) + tallyAt (recvCell (goal 6 c) 6) () (amt 6) := rfl
  have h5 : outP c (nextLowM c).view.set fullShare (fin I) ⊢ sendPay I c 6 := .rfl
  exact agSend_spec I K c (Rect.unit (s := S4x256x1024) (k0_off14 c 2#32) S1x128x1024.size (k0_off14_inb c 0))
    (fun _ => rfl) (View.wordExact_bits rfl) ⟨k0_dev10 c, k0_dev10_lt c⟩ 6 3 fullShare 9 (Fin.ext (k0_dev10_eq c)) h1 h2 h3 h4 h5
    (Entails.of_eq (congrArg (fun S => outP (goal 6 c) S fullShare (fin I)) (nextLow_opp c))) Kt

theorem agWait_spec {s : Shape} (m : Memref sig .tc .vmem s .f32) (hm : m.view.WordExact) (a : DmaSems sig S4) (r : Fin 4)
    (k : Exch × Bool) (hs : SemLoc.dma (sem4 a r) = csem (some k)) (hN : m.view.dmaCredit = amt k.1) (n : ℕ)
    (hmay : (levAts L lv : sProp 𝕄) ⊢ MayWait (c : Thread nD τ) (csem (some k)) () (due c n)) (Kt : PUnit → sProp 𝕄) :
    iprop(records I K ∗ levAts L lv ∗ owing c n ∗ atPos ER (kcell (c, some k)) 0 ∅ 0
        ∗ cred (tallyAt (kcell (c, some k)) () (amt k.1))
        ∗ (owing c n ∗ semVal (kcell (c, some k)) 0 ∗ cellGives I c k -∗ Kt ⟨⟩))
      ⊢ runs c (agWait m hm a r) Kt := wait_spec I K c k hs hN n hmay Kt

/-- What is left of a neighbour's sum while one half of it is sent on. -/
def prevRest : Finset S4x256x1024.Idx := outSet c 0 \ (prevTopM c).view.set
def nextRest : Finset S4x256x1024.Idx := outSet c 1 \ (nextLowM c).view.set

theorem prev_split (f : Vec F S4x256x1024 .f32) :
    (outP c (outSet c 0) fullShare f : sProp 𝕄) ⊣⊢ iprop(outP c (prevTopM c).view.set fullShare f ∗ outP c (prevRest c) fullShare f) :=
  pointsTo_split_subset fun i hi => (mem_prev c i).mpr ((mem_prevTop c i).mp hi).1
theorem next_split (f : Vec F S4x256x1024 .f32) :
    (outP c (outSet c 1) fullShare f : sProp 𝕄) ⊣⊢ iprop(outP c (nextLowM c).view.set fullShare f ∗ outP c (nextRest c) fullShare f) :=
  pointsTo_split_subset fun i hi => (mem_next c i).mpr ((mem_nextLow c i).mp hi).1
theorem own_split (f : Vec F S4x256x1024 .f32) :
    (outP c (ownM c).view.set fullShare f : sProp 𝕄)
      ⊣⊢ iprop(outP c (ownM c).view.set fullShare.left f ∗ outP c (ownM c).view.set fullShare.right f) :=
  pointsTo_share (PosShare.mem_left_op_right fullShare)

/-- The tokens, positions and credits of an exchange. -/
def sendTok (e : Exch) : sProp 𝕄 := iprop(dutyTok ER (sendCell c e) 0 0 ∗ dutyTok ER (recvCell (goal e c) e) 0 0)
def sendWait (e : Exch) : sProp 𝕄 := iprop(atPos ER (sendCell c e) 0 ∅ 0 ∗ cred (tallyAt (sendCell c e) () (amt e)))
def recvWait (e : Exch) : sProp 𝕄 := iprop(atPos ER (recvCell c e) 0 ∅ 0 ∗ cred (tallyAt (recvCell c e) () (amt e)))

theorem gather_spec (Kt : PUnit → sProp 𝕄) :
    iprop(records I K ∗ levAts L lv ∗ owing c 6 ∗ outP c (ownM c).view.set fullShare (fin I)
        ∗ (spot (turn 1 c) 3 ∗ spot (turn 3 c) 4 ∗ spot (turn 1 c) 5 ∗ spot (turn 3 c) 6)
        ∗ (sendTok c 3 ∗ sendTok c 4 ∗ sendTok c 5 ∗ sendTok c 6)
        ∗ (recvWait c 3 ∗ recvWait c 4 ∗ recvWait c 5 ∗ recvWait c 6)
        ∗ (owing c 10 ∗ (outP c (prevRest c) fullShare (fin I) ∗ outP c (nextRest c) fullShare (fin I)
              ∗ outP c (outSet c 2) fullShare (fin I) ∗ outP c (outSet c 3) fullShare (fin I))
            ∗ (cred (tallyAt (sendCell c 3) () (amt 3)) ∗ cred (tallyAt (sendCell c 4) () (amt 4))
              ∗ cred (tallyAt (sendCell c 5) () (amt 5)) ∗ cred (tallyAt (sendCell c 6) () (amt 6)))
            ∗ (semVal (recvCell c 3) 0 ∗ semVal (recvCell c 4) 0 ∗ semVal (recvCell c 5) 0 ∗ semVal (recvCell c 6) 0)
            -∗ Kt ⟨⟩))
      ⊢ runs c (gather c) Kt := by
  unfold gather runs sendTok recvWait
  rw [wp_bind]
  iintro ⟨#HR, #HL, HO, Hown, ⟨S3, S4, S5, S6⟩, ⟨⟨T3, U3⟩, ⟨T4, U4⟩, ⟨T5, U5⟩, ⟨T6, U6⟩⟩, ⟨⟨P3, C3⟩, ⟨P4, C4⟩, ⟨P5, C5⟩, ⟨P6, C6⟩⟩, Hk⟩
  ihave H := (own_split c (fin I)).1 $$ Hown
  icases H with ⟨HoL, HoR⟩
  iapply (send3_spec I K c)
  isplitr; · iexact HR
  isplitl [HoL]; · iexact HoL
  isplitl [S3]; · iexact S3
  isplitl [HO]; · iexact HO
  isplitl [T3]; · iexact T3
  isplitl [U3]; · iexact U3
  iintro ⟨D3, HO⟩
  rw [wp_bind]
  iapply (send4_spec I K c)
  isplitr; · iexact HR
  isplitl [HoR]; · iexact HoR
  isplitl [S4]; · iexact S4
  isplitl [HO]; · iexact HO
  isplitl [T4]; · iexact T4
  isplitl [U4]; · iexact U4
  iintro ⟨D4, HO⟩
  rw [wp_bind]
  iapply (agWait_spec I K c (prevM c) (View.wordExact_bits rfl) cc0_scratch10 0 (3, true) rfl rfl 8 (mayWait_prev c))
  isplitr; · iexact HR
  isplitr; · iexact HL
  isplitl [HO]; · iexact HO
  isplitl [P3]; · iexact P3
  isplitl [C3]; · iexact C3
  iintro ⟨HO, Z3, H⟩
  ihave H := (show cellGives I c (3, true) ⊢ _ from (prev_split c (fin I)).1) $$ H
  icases H with ⟨HpT, HpR⟩
  rw [wp_bind]
  iapply (send5_spec I K c)
  isplitr; · iexact HR
  isplitl [HpT]; · iexact HpT
  isplitl [S5]; · iexact S5
  isplitl [HO]; · iexact HO
  isplitl [T5]; · iexact T5
  isplitl [U5]; · iexact U5
  iintro ⟨D5, HO⟩
  rw [wp_bind]
  iapply (agWait_spec I K c (nextM c) (View.wordExact_bits rfl) cc0_scratch10 1 (4, true) rfl rfl 9 (mayWait_next c))
  isplitr; · iexact HR
  isplitr; · iexact HL
  isplitl [HO]; · iexact HO
  isplitl [P4]; · iexact P4
  isplitl [C4]; · iexact C4
  iintro ⟨HO, Z4, H⟩
  ihave H := (show cellGives I c (4, true) ⊢ _ from (next_split c (fin I)).1) $$ H
  icases H with ⟨HnL, HnR⟩
  rw [wp_bind]
  iapply (send6_spec I K c)
  isplitr; · iexact HR
  isplitl [HnL]; · iexact HnL
  isplitl [S6]; · iexact S6
  isplitl [HO]; · iexact HO
  isplitl [T6]; · iexact T6
  isplitl [U6]; · iexact U6
  iintro ⟨D6, HO⟩
  rw [wp_bind]
  iapply (agWait_spec I K c (oppTopM c) (View.wordExact_bits rfl) cc0_scratch10 2 (5, true) rfl rfl 10 (mayWait_done c _))
  isplitr; · iexact HR
  isplitr; · iexact HL
  isplitl [HO]; · iexact HO
  isplitl [P5]; · iexact P5
  isplitl [C5]; · iexact C5
  iintro ⟨HO, Z5, G5⟩
  iapply (agWait_spec I K c (oppLowM c) (View.wordExact_bits rfl) cc0_scratch10 3 (6, true) rfl rfl 10 (mayWait_done c _))
  isplitr; · iexact HR
  isplitr; · iexact HL
  isplitl [HO]; · iexact HO
  isplitl [P6]; · iexact P6
  isplitl [C6]; · iexact C6
  iintro ⟨HO, Z6, G6⟩
  iapply Hk
  isplitl [HO]; · iexact HO
  isplitl [HpR HnR G5 G6]
  · isplitl [HpR]; · iexact HpR
    isplitl [HnR]; · iexact HnR
    isplitl [G5]; · iapply (show cellGives I c (5, true) ⊢ outP c (outSet c 2) fullShare (fin I) from .rfl) $$ G5
    iapply (show cellGives I c (6, true) ⊢ outP c (outSet c 3) fullShare (fin I) from .rfl) $$ G6
  isplitl [D3 D4 D5 D6]
  · isplitl [D3]; · iexact D3
    isplitl [D4]; · iexact D4
    isplitl [D5] <;> iassumption
  isplitl [Z3]; · iexact Z3
  isplitl [Z4]; · iexact Z4
  isplitl [Z5] <;> iassumption

theorem drain_spec (Kt : PUnit → sProp 𝕄) :
    iprop(records I K ∗ levAts L lv ∗ owing c 10
        ∗ (sendWait c 2 ∗ sendWait c 3 ∗ sendWait c 4 ∗ sendWait c 5 ∗ sendWait c 6)
        ∗ (owing c 10 ∗ partAtP c 2 (partAt I c 2) ∗ outP c (ownM c).view.set fullShare (fin I)
            ∗ outP c (prevTopM c).view.set fullShare (fin I) ∗ outP c (nextLowM c).view.set fullShare (fin I)
            ∗ (semVal (sendCell c 2) 0 ∗ semVal (sendCell c 3) 0 ∗ semVal (sendCell c 4) 0 ∗ semVal (sendCell c 5) 0
              ∗ semVal (sendCell c 6) 0) -∗ Kt ⟨⟩))
      ⊢ runs c (drain c) Kt := by
  unfold drain runs sendWait
  rw [wp_bind]
  iintro ⟨#HR, #HL, HO, ⟨⟨P2, C2⟩, ⟨P3, C3⟩, ⟨P4, C4⟩, ⟨P5, C5⟩, ⟨P6, C6⟩⟩, Hk⟩
  iapply (rsWaitSend_spec I K c 2 10)
  isplitr; · iexact HR
  isplitr; · iexact HL
  isplitl [HO]; · iexact HO
  isplitl [P2]; · iexact P2
  isplitl [C2]; · iexact C2
  iintro ⟨HO, Z2, G2⟩
  rw [wp_bind]
  iapply (agWait_spec I K c (ownM c) (View.wordExact_bits rfl) cc0_scratch9 0 (3, false) rfl rfl 10 (mayWait_done c _))
  isplitr; · iexact HR
  isplitr; · iexact HL
  isplitl [HO]; · iexact HO
  isplitl [P3]; · iexact P3
  isplitl [C3]; · iexact C3
  iintro ⟨HO, Z3, G3⟩
  rw [wp_bind]
  iapply (agWait_spec I K c (ownM c) (View.wordExact_bits rfl) cc0_scratch9 1 (4, false) rfl rfl 10 (mayWait_done c _))
  isplitr; · iexact HR
  isplitr; · iexact HL
  isplitl [HO]; · iexact HO
  isplitl [P4]; · iexact P4
  isplitl [C4]; · iexact C4
  iintro ⟨HO, Z4, G4⟩
  rw [wp_bind]
  iapply (agWait_spec I K c (prevTopM c) (View.wordExact_bits rfl) cc0_scratch9 2 (5, false) rfl rfl 10 (mayWait_done c _))
  isplitr; · iexact HR
  isplitr; · iexact HL
  isplitl [HO]; · iexact HO
  isplitl [P5]; · iexact P5
  isplitl [C5]; · iexact C5
  iintro ⟨HO, Z5, G5⟩
  iapply (agWait_spec I K c (nextLowM c) (View.wordExact_bits rfl) cc0_scratch9 3 (6, false) rfl rfl 10 (mayWait_done c _))
  isplitr; · iexact HR
  isplitr; · iexact HL
  isplitl [HO]; · iexact HO
  isplitl [P6]; · iexact P6
  isplitl [C6]; · iexact C6
  iintro ⟨HO, Z6, G6⟩
  iapply Hk
  isplitl [HO]; · iexact HO
  isplitl [G2]; · iexact G2
  isplitl [G3 G4]
  · iapply (own_split c (fin I)).2
    isplitl [G3]; · iapply (show cellGives I c (3, false) ⊢ outP c (ownM c).view.set fullShare.left (fin I) from .rfl) $$ G3
    iapply (show cellGives I c (4, false) ⊢ outP c (ownM c).view.set fullShare.right (fin I) from .rfl) $$ G4
  isplitl [G5]; · iapply (show cellGives I c (5, false) ⊢ outP c (prevTopM c).view.set fullShare (fin I) from .rfl) $$ G5
  isplitl [G6]; · iapply (show cellGives I c (6, false) ⊢ outP c (nextLowM c).view.set fullShare (fin I) from .rfl) $$ G6
  isplitl [Z2]; · iexact Z2
  isplitl [Z3]; · iexact Z3
  isplitl [Z4]; · iexact Z4
  isplitl [Z5] <;> iassumption

end Exchange

end Cert.KernelIdeal.Body
-- ==== Proof.Places.lean ====
/-
  The buffers cut into the places the protocol speaks of, and put together again.
-/
module

public import proofs.«01_k».proof.Proof.Exchange
public import Idealize.ShloMosaic.Lib.Ring

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Places
variable (I : Ins F) (c : Dev nD)

/-! ## The partial products and the landing buffer -/

theorem bigSep_two (Φ : Fin 2 → sProp 𝕄) : bigSep Finset.univ Φ = iprop(Φ 0 ∗ Φ 1) :=
  bigSep_univ_eq_bigSepL [0, 1] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A place is named by the first step that uses it. -/
def firstUse (b : Fin 2) : Fin 4 := ⟨b.val, by omega⟩

/-- The places of the partial products. -/
def partCut (b : Fin 2) : Finset S2x256x1024.Idx := (partM (firstUse b)).view.set
theorem mem_partCut (b : Fin 2) (i : S2x256x1024.Idx) : i ∈ partCut b ↔ i 0 = b :=
  (mem_part (firstUse b) i).trans ⟨fun h => Fin.ext (h.trans (Nat.mod_eq_of_lt b.isLt)), fun h => by
    rw [h]; exact (Nat.mod_eq_of_lt b.isLt).symm⟩
theorem part_set_add (t t' : Fin 4) (h : slot t = slot t') : (partM t).view.set = (partM t').view.set := by
  ext i; rw [mem_part, mem_part, h]

theorem cut_disjoint {ι κ : Type} [DecidableEq ι] {C : κ → Finset ι} {g : ι → κ} (h : ∀ b i, i ∈ C b ↔ g i = b) :
    ∀ b b', b ≠ b' → Disjoint (C b) (C b') :=
  fun b b' hb => Finset.disjoint_left.mpr fun i h1 h2 => hb (((h b i).mp h1).symm.trans ((h b' i).mp h2))
theorem cut_cover {ι κ : Type} [Fintype ι] [DecidableEq ι] [Fintype κ] {C : κ → Finset ι} {g : ι → κ} (h : ∀ b i, i ∈ C b ↔ g i = b) :
    Finset.univ.biUnion C = Finset.univ :=
  Finset.eq_univ_of_forall fun i => Finset.mem_biUnion.mpr ⟨g i, Finset.mem_univ _, (h _ i).mpr rfl⟩

theorem part_split (f : Vec F S2x256x1024 .f32) :
    (iprop(((pW).view.loc (c : Thread nD τ) ↦{fullShare} f)) : sProp 𝕄) = iprop(partAtP c 0 f ∗ partAtP c 1 f) :=
  (Ring.pointsTo_blocks (ℓ := (pW).view.loc (c : Thread nD τ)) partCut (cut_disjoint mem_partCut) (cut_cover mem_partCut) f).trans (bigSep_two _)

theorem part_join (f g : Vec F S2x256x1024 .f32) :
    iprop(partAtP c 2 f ∗ partAtP c 3 g) ⊢ (iprop(∃ k, ((pW).view.loc (c : Thread nD τ) ↦{fullShare} k)) : sProp 𝕄) := by
  have h := Ring.pointsTo_blocks_join_exists (Val := Elt F) (nD := nD) (τ := τ) (sig := sig) (Ix := Unit) (Name := ℕ) (U := UU) (Lvl := ℕ)
    (ℓ := (pW).view.loc (c : Thread nD τ)) partCut (cut_disjoint mem_partCut) (cut_cover mem_partCut) (q := fullShare) f
  rw [bigSep_two] at h
  unfold partAtP
  rw [part_set_add 2 0 rfl, part_set_add 3 1 rfl]
  iintro ⟨H1, H2⟩
  iapply h
  isplitl [H1]; · iexists f; iexact H1
  iexists g; iexact H2

/-- A place whose content has been sent is free for the product after the next. -/
theorem part_again (t t' : Fin 4) (h : slot t = slot t') (f : Vec F S2x256x1024 .f32) :
    partAtP c t f ⊢ (iprop(∃ f, partAtP c t' f) : sProp 𝕄) := by
  iintro H
  iexists f
  unfold partAtP
  rw [part_set_add t t' h]
  iexact H

def landCut (b : Fin 3) : Finset S1x3x256x1024.Idx := (landM b).view.set
theorem mem_landCut (b : Fin 3) (i : S1x3x256x1024.Idx) : i ∈ landCut b ↔ i 1 = b := mem_land b i

theorem land_split (f : Vec F S1x3x256x1024 .f32) :
    (iprop(((rW).view.loc (c : Thread nD τ) ↦{fullShare} f)) : sProp 𝕄) = iprop(landP c 0 f ∗ landP c 1 f ∗ landP c 2 f) :=
  (Ring.pointsTo_blocks (ℓ := (rW).view.loc (c : Thread nD τ)) landCut (cut_disjoint mem_landCut) (cut_cover mem_landCut) f).trans (bigSep_three _)

/-! ## The result -/

def outCut (b : Fin 5) : Finset S4x256x1024.Idx :=
  match b with
  | 0 => (ownM c).view.set
  | 1 => outSet c 0
  | 2 => outSet c 1
  | 3 => outSet c 2
  | 4 => outSet c 3

/-- Which of the five places an element lies in. -/
def outPlace (i : S4x256x1024.Idx) : Fin 5 :=
  if (i 0).val = (c.val + 1) % 4 then 0 else if (i 0).val = c.val then 1 else if (i 0).val = (c.val + 2) % 4 then 2
  else if (i 1).val < 128 then 3 else 4

theorem mem_outCut (b : Fin 5) (i : S4x256x1024.Idx) : i ∈ outCut c b ↔ outPlace c i = b := by
  have h0 : (i 0).val < 4 := (i 0).isLt
  have hc : c.val < 4 := c.isLt
  unfold outPlace
  match b with
  | 0 =>
      refine (mem_own c i).trans ?_
      split_ifs <;> simp only [Fin.reduceEq, iff_false, iff_true] <;> omega
  | 1 =>
      refine (mem_prev c i).trans ?_
      split_ifs <;> simp only [Fin.reduceEq, iff_false, iff_true] <;> omega
  | 2 =>
      refine (mem_next c i).trans ?_
      split_ifs <;> simp only [Fin.reduceEq, iff_false, iff_true] <;> omega
  | 3 =>
      refine (mem_oppTop c i).trans ?_
      split_ifs <;> simp only [Fin.reduceEq, iff_false, iff_true] <;> omega
  | 4 =>
      refine (mem_oppLow c i).trans ?_
      split_ifs <;> simp only [Fin.reduceEq, iff_false, iff_true] <;> omega

theorem out_split (f : Vec F S4x256x1024 .f32) :
    (iprop(((oW).view.loc (c : Thread nD τ) ↦{fullShare} f)) : sProp 𝕄)
      = iprop(outP c (ownM c).view.set fullShare f ∗ outP c (outSet c 0) fullShare f ∗ outP c (outSet c 1) fullShare f
          ∗ outP c (outSet c 2) fullShare f ∗ outP c (outSet c 3) fullShare f) :=
  (Ring.pointsTo_blocks (ℓ := (oW).view.loc (c : Thread nD τ)) (outCut c) (cut_disjoint (mem_outCut c)) (cut_cover (mem_outCut c)) f).trans (bigSep_five _)

/-! ## Keys and values -/

/-- All heads' keys and values of chunk `t`, in the caches. -/
def srcs (t : Fin 4) : sProp 𝕄 := iprop(bigSep Finset.univ (kSrcP I c t) ∗ bigSep Finset.univ (vSrcP I c t))
/-- The places for them. -/
def dsts (t : Fin 4) : sProp 𝕄 :=
  iprop(bigSep Finset.univ (fun h => iprop(∃ f, kDstP (F := F) c t h f)) ∗ bigSep Finset.univ (fun h => iprop(∃ f, vDstP (F := F) c t h f)))

theorem ready_of (t : Fin 4) : iprop(srcs I c t ∗ dsts c t) ⊢ bigSep Finset.univ (ready I c t) := by
  unfold srcs dsts ready
  rw [bigSep_sep', bigSep_sep', bigSep_sep']
  iintro ⟨⟨H1, H2⟩, H3, H4⟩
  isplitl [H1]; · iexact H1
  isplitl [H3]; · iexact H3
  isplitl [H2] <;> iassumption

theorem kDst_again (t t' : Fin 4) (h : slot t = slot t') (j : Fin 8) : (kvDst kbW t j).view.set = (kvDst kbW t' j).view.set := by
  ext i; rw [mem_kDst, mem_kDst, h]
theorem vDst_again (t t' : Fin 4) (h : slot t = slot t') (j : Fin 8) : (kvDst vbW t j).view.set = (kvDst vbW t' j).view.set := by
  rw [vDst_set, vDst_set]; exact kDst_again t t' h j

theorem kDone_again (t t' : Fin 4) (h : slot t = slot t') (j : Fin 8) :
    kDone I c t j ⊢ iprop((∃ f, kDstP c t' j f) ∗ kSrcP I c t j) := by
  unfold kDone
  iintro ⟨H1, H2⟩
  isplitl [H1]
  · iexists (kvAt (I.k c) c t)
    unfold kDstP
    rw [kDst_again t t' h]
    iexact H1
  iexact H2
theorem vDone_again (t t' : Fin 4) (h : slot t = slot t') (j : Fin 8) :
    vDone I c t j ⊢ iprop((∃ f, vDstP c t' j f) ∗ vSrcP I c t j) := by
  unfold vDone
  iintro ⟨H1, H2⟩
  isplitl [H1]
  · iexists (kvAt (I.v c) c t)
    unfold vDstP
    rw [vDst_again t t' h]
    iexact H1
  iexact H2

theorem done_of (t t' : Fin 4) (h : slot t = slot t') :
    iprop(bigSep Finset.univ (kDone I c t) ∗ bigSep Finset.univ (vDone I c t)) ⊢ iprop(srcs I c t ∗ dsts c t') := by
  have hk : bigSep Finset.univ (kDone I c t) ⊢ (bigSep Finset.univ fun j => iprop((∃ f, kDstP c t' j f) ∗ kSrcP I c t j) : sProp 𝕄) :=
    bigSep_mono fun j _ => kDone_again I c t t' h j
  have hv : bigSep Finset.univ (vDone I c t) ⊢ (bigSep Finset.univ fun j => iprop((∃ f, vDstP c t' j f) ∗ vSrcP I c t j) : sProp 𝕄) :=
    bigSep_mono fun j _ => vDone_again I c t t' h j
  rw [bigSep_sep'] at hk hv
  unfold srcs dsts
  iintro ⟨HK, HV⟩
  ihave HK := hk $$ HK
  ihave HV := hv $$ HV
  icases HK with ⟨H1, H2⟩
  icases HV with ⟨H3, H4⟩
  isplitl [H2 H4]
  · isplitl [H2] <;> iassumption
  isplitl [H1] <;> iassumption

def srcCut (b : Fin 4 × Fin 8) : Finset S4x1024x8x128.Idx := (kvSrc kW c b.1 b.2).view.set
/-- The step that reaches a chunk. -/
def stepOf (a : Fin 4) : Fin 4 := ⟨((c.val + 4) - a.val) % 4, Nat.mod_lt _ (by decide)⟩
theorem mem_srcCut (b : Fin 4 × Fin 8) (i : S4x1024x8x128.Idx) : i ∈ srcCut c b ↔ (stepOf c (i 0), i 2) = b := by
  have h0 : (i 0).val < 4 := (i 0).isLt
  have hc : c.val < 4 := c.isLt
  have hb := b.1.isLt
  refine (mem_kSrc c b.1 b.2 i).trans ⟨fun h => Prod.ext ?_ h.2, fun h => ⟨?_, congrArg Prod.snd h⟩⟩
  · have := congrArg Fin.val h.1
    refine Fin.ext ?_
    show ((c.val + 4) - (i 0).val) % 4 = b.1.val
    have h1 : (i 0).val = ((c.val + 4) - b.1.val) % 4 := this
    omega
  · have h1 : ((c.val + 4) - (i 0).val) % 4 = b.1.val := congrArg (fun p : Fin 4 × Fin 8 => p.1.val) h
    refine Fin.ext ?_
    show (i 0).val = ((c.val + 4) - b.1.val) % 4
    omega

theorem k_split : (iprop(((kW).view.loc (c : Thread nD τ) ↦{fullShare} I.k c)) : sProp 𝕄)
    = bigSep Finset.univ fun t => bigSep Finset.univ (kSrcP I c t) :=
  (Ring.pointsTo_blocks (ℓ := (kW).view.loc (c : Thread nD τ)) (srcCut c) (cut_disjoint (mem_srcCut c)) (cut_cover (mem_srcCut c)) (I.k c)).trans (bigSep_univ_prod _)
theorem v_split : (iprop(((vW).view.loc (c : Thread nD τ) ↦{fullShare} I.v c)) : sProp 𝕄)
    = bigSep Finset.univ fun t => bigSep Finset.univ (vSrcP I c t) := by
  refine ((Ring.pointsTo_blocks (ℓ := (vW).view.loc (c : Thread nD τ)) (srcCut c) (cut_disjoint (mem_srcCut c)) (cut_cover (mem_srcCut c)) (I.v c)).trans
    (bigSep_univ_prod _)).trans (bigSep_congr fun t _ => bigSep_congr fun h _ => ?_)
  unfold vSrcP srcCut
  rw [vSrc_set]

theorem kv_split : (iprop(((kW).view.loc (c : Thread nD τ) ↦{fullShare} I.k c) ∗ ((vW).view.loc (c : Thread nD τ) ↦{fullShare} I.v c)) : sProp 𝕄)
    = iprop(srcs I c 0 ∗ srcs I c 1 ∗ srcs I c 2 ∗ srcs I c 3) := by
  unfold srcs
  rw [k_split, v_split, ← bigSep_sep', bigSep_four]

def dstCut (b : Fin 2 × Fin 8) : Finset S2x8x1x1024x128.Idx := (kvDst kbW (firstUse b.1) b.2).view.set
theorem mem_dstCut (b : Fin 2 × Fin 8) (i : S2x8x1x1024x128.Idx) : i ∈ dstCut b ↔ ((i 0, i 1) : Fin 2 × Fin 8) = b := by
  refine (mem_kDst (firstUse b.1) b.2 i).trans ⟨fun h => Prod.ext (Fin.ext (h.1.trans (Nat.mod_eq_of_lt b.1.isLt))) h.2, fun h => ?_⟩
  subst h
  exact ⟨(Nat.mod_eq_of_lt (i 0).isLt).symm, rfl⟩

theorem kb_split (f : Vec F S2x8x1x1024x128 .f32) : (iprop(((kbW).view.loc (c : Thread nD τ) ↦{fullShare} f)) : sProp 𝕄)
    = iprop(bigSep Finset.univ (fun h => kDstP c 0 h f) ∗ bigSep Finset.univ (fun h => kDstP c 1 h f)) :=
  ((Ring.pointsTo_blocks (ℓ := (kbW).view.loc (c : Thread nD τ)) dstCut (cut_disjoint mem_dstCut) (cut_cover mem_dstCut) f).trans (bigSep_univ_prod _)).trans (bigSep_two _)
theorem vb_split (f : Vec F S2x8x1x1024x128 .f32) : (iprop(((vbW).view.loc (c : Thread nD τ) ↦{fullShare} f)) : sProp 𝕄)
    = iprop(bigSep Finset.univ (fun h => vDstP c 0 h f) ∗ bigSep Finset.univ (fun h => vDstP c 1 h f)) := by
  refine (((Ring.pointsTo_blocks (ℓ := (vbW).view.loc (c : Thread nD τ)) dstCut (cut_disjoint mem_dstCut) (cut_cover mem_dstCut) f).trans
    (bigSep_univ_prod _)).trans (bigSep_congr fun b _ => bigSep_congr fun h _ => ?_)).trans
      (bigSep_two fun b => bigSep Finset.univ fun h => vDstP c (firstUse b) h f)
  unfold vDstP dstCut
  rw [vDst_set]

theorem some_k (t : Fin 4) (h : Fin 8) (f : Vec F S2x8x1x1024x128 .f32) : kDstP c t h f ⊢ (iprop(∃ f, kDstP c t h f) : sProp 𝕄) := by
  iintro H; iexists f; iexact H
theorem some_v (t : Fin 4) (h : Fin 8) (f : Vec F S2x8x1x1024x128 .f32) : vDstP c t h f ⊢ (iprop(∃ f, vDstP c t h f) : sProp 𝕄) := by
  iintro H; iexists f; iexact H

theorem buf_split (f g : Vec F S2x8x1x1024x128 .f32) :
    iprop(((kbW).view.loc (c : Thread nD τ) ↦{fullShare} f) ∗ ((vbW).view.loc (c : Thread nD τ) ↦{fullShare} g))
      ⊢ (iprop(dsts c 0 ∗ dsts c 1) : sProp 𝕄) := by
  have hk (t : Fin 4) : bigSep Finset.univ (fun h => kDstP c t h f) ⊢ (bigSep Finset.univ (fun h => iprop(∃ f, kDstP c t h f)) : sProp 𝕄) :=
    bigSep_mono fun h _ => some_k c t h f
  have hv (t : Fin 4) : bigSep Finset.univ (fun h => vDstP c t h g) ⊢ (bigSep Finset.univ (fun h => iprop(∃ f, vDstP c t h f)) : sProp 𝕄) :=
    bigSep_mono fun h _ => some_v c t h g
  rw [kb_split, vb_split]
  unfold dsts
  iintro ⟨⟨H1, H2⟩, H3, H4⟩
  isplitl [H1 H3]
  · isplitl [H1]; · iapply (hk 0) $$ H1
    iapply (hv 0) $$ H3
  isplitl [H2]; · iapply (hk 1) $$ H2
  iapply (hv 1) $$ H4

theorem buf_join [Nonempty (Vec F S2x8x1x1024x128 .f32)] :
    iprop(dsts c 2 ∗ dsts c 3) ⊢ (iprop((∃ f, ((kbW).view.loc (c : Thread nD τ) ↦{fullShare} f))
      ∗ ∃ f, ((vbW).view.loc (c : Thread nD τ) ↦{fullShare} f)) : sProp 𝕄) := by
  have f₀ : Vec F S2x8x1x1024x128 .f32 := Classical.choice inferInstance
  have hk := Ring.pointsTo_blocks_join_exists (Val := Elt F) (nD := nD) (τ := τ) (sig := sig) (Ix := Unit) (Name := ℕ) (U := UU) (Lvl := ℕ)
    (ℓ := (kbW).view.loc (c : Thread nD τ)) dstCut (cut_disjoint mem_dstCut) (cut_cover mem_dstCut) (q := fullShare) f₀
  have hv := Ring.pointsTo_blocks_join_exists (Val := Elt F) (nD := nD) (τ := τ) (sig := sig) (Ix := Unit) (Name := ℕ) (U := UU) (Lvl := ℕ)
    (ℓ := (vbW).view.loc (c : Thread nD τ)) dstCut (cut_disjoint mem_dstCut) (cut_cover mem_dstCut) (q := fullShare) f₀
  rw [bigSep_univ_prod, bigSep_two] at hk hv
  have k2 : (bigSep Finset.univ fun h => iprop(∃ f, kDstP (F := F) c 2 h f))
      = bigSep Finset.univ fun h => iprop(∃ f, (kbW).view.loc (c : Thread nD τ) ↦[dstCut (0, h)]{fullShare} f) :=
    bigSep_congr fun h _ => by unfold kDstP; rw [kDst_again 2 0 rfl]; rfl
  have k3 : (bigSep Finset.univ fun h => iprop(∃ f, kDstP (F := F) c 3 h f))
      = bigSep Finset.univ fun h => iprop(∃ f, (kbW).view.loc (c : Thread nD τ) ↦[dstCut (1, h)]{fullShare} f) :=
    bigSep_congr fun h _ => by unfold kDstP; rw [kDst_again 3 1 rfl]; rfl
  have v2 : (bigSep Finset.univ fun h => iprop(∃ f, vDstP (F := F) c 2 h f))
      = bigSep Finset.univ fun h => iprop(∃ f, (vbW).view.loc (c : Thread nD τ) ↦[dstCut (0, h)]{fullShare} f) :=
    bigSep_congr fun h _ => by unfold vDstP; rw [vDst_again 2 0 rfl, vDst_set]; rfl
  have v3 : (bigSep Finset.univ fun h => iprop(∃ f, vDstP (F := F) c 3 h f))
      = bigSep Finset.univ fun h => iprop(∃ f, (vbW).view.loc (c : Thread nD τ) ↦[dstCut (1, h)]{fullShare} f) :=
    bigSep_congr fun h _ => by unfold vDstP; rw [vDst_again 3 1 rfl, vDst_set]; rfl
  unfold dsts
  rw [k2, k3, v2, v3]
  iintro ⟨⟨H1, H2⟩, H3, H4⟩
  isplitl [H1 H3]
  · iapply hk
    isplitl [H1] <;> iassumption
  · iapply hv
    isplitl [H2] <;> iassumption

end Places

end Cert.KernelIdeal.Body
-- ==== Proof.Whole.lean ====
/-
  The body as a whole: from what a device starts with to what it ends with.
-/
module

public import proofs.«01_k».proof.Proof.Places

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Whole
variable (I : Ins F) (K : Dev nD × Cell → ℕ) (c : Dev nD)

theorem bigSep_seven (Φ : Exch → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem rsSend0_spec (Kt : PUnit → sProp 𝕄) :
    iprop(records I K ∗ partAtP c 0 (partAt I c 0) ∗ spot (turn 3 c) 0 ∗ owing c 3 ∗ sendTok c 0
        ∗ (cred (tallyAt (sendCell c 0) () (amt 0)) ∗ owing c 4 -∗ Kt ⟨⟩))
      ⊢ runs c (rsSend c 0) Kt := by
  unfold sendTok
  iintro ⟨HR, Hp, Hs, HO, ⟨T1, T2⟩, Hk⟩
  iapply (show iprop(records I K ∗ partAtP c 0 (partAt I c 0) ∗ spot (turn 3 c) 0
        ∗ owing c 3 ∗ dutyTok ER (sendCell c 0) 0 0 ∗ dutyTok ER (recvCell (goal 0 c) 0) 0 0
        ∗ (cred (tallyAt (sendCell c 0) () (amt 0)) ∗ owing c 4 -∗ Kt ⟨⟩))
      ⊢ runs c (rsSend c 0) Kt from rsSend_spec I K c 0 Kt)
  isplitl [HR]; · iexact HR
  isplitl [Hp]; · iexact Hp
  isplitl [Hs]; · iexact Hs
  isplitl [HO]; · iexact HO
  isplitl [T1]; · iexact T1
  isplitl [T2]; · iexact T2
  iexact Hk
theorem rsSend1_spec (Kt : PUnit → sProp 𝕄) :
    iprop(records I K ∗ partAtP c 1 (partAt I c 1) ∗ spot (turn 2 c) 1 ∗ owing c 4 ∗ sendTok c 1
        ∗ (cred (tallyAt (sendCell c 1) () (amt 1)) ∗ owing c 5 -∗ Kt ⟨⟩))
      ⊢ runs c (rsSend c 1) Kt := by
  unfold sendTok
  iintro ⟨HR, Hp, Hs, HO, ⟨T1, T2⟩, Hk⟩
  iapply (show iprop(records I K ∗ partAtP c 1 (partAt I c 1) ∗ spot (turn 2 c) 1
        ∗ owing c 4 ∗ dutyTok ER (sendCell c 1) 0 0 ∗ dutyTok ER (recvCell (goal 1 c) 1) 0 0
        ∗ (cred (tallyAt (sendCell c 1) () (amt 1)) ∗ owing c 5 -∗ Kt ⟨⟩))
      ⊢ runs c (rsSend c 1) Kt from rsSend_spec I K c 1 Kt)
  isplitl [HR]; · iexact HR
  isplitl [Hp]; · iexact Hp
  isplitl [Hs]; · iexact Hs
  isplitl [HO]; · iexact HO
  isplitl [T1]; · iexact T1
  isplitl [T2]; · iexact T2
  iexact Hk
theorem rsSend2_spec (Kt : PUnit → sProp 𝕄) :
    iprop(records I K ∗ partAtP c 2 (partAt I c 2) ∗ spot (turn 1 c) 2 ∗ owing c 5 ∗ sendTok c 2
        ∗ (cred (tallyAt (sendCell c 2) () (amt 2)) ∗ owing c 6 -∗ Kt ⟨⟩))
      ⊢ runs c (rsSend c 2) Kt := by
  unfold sendTok
  iintro ⟨HR, Hp, Hs, HO, ⟨T1, T2⟩, Hk⟩
  iapply (show iprop(records I K ∗ partAtP c 2 (partAt I c 2) ∗ spot (turn 1 c) 2
        ∗ owing c 5 ∗ dutyTok ER (sendCell c 2) 0 0 ∗ dutyTok ER (recvCell (goal 2 c) 2) 0 0
        ∗ (cred (tallyAt (sendCell c 2) () (amt 2)) ∗ owing c 6 -∗ Kt ⟨⟩))
      ⊢ runs c (rsSend c 2) Kt from rsSend_spec I K c 2 Kt)
  isplitl [HR]; · iexact HR
  isplitl [Hp]; · iexact Hp
  isplitl [Hs]; · iexact Hs
  isplitl [HO]; · iexact HO
  isplitl [T1]; · iexact T1
  isplitl [T2]; · iexact T2
  iexact Hk
theorem rsWaitSend0_spec (n : ℕ) (Kt : PUnit → sProp 𝕄) :
    iprop(records I K ∗ levAts L lv ∗ owing c n ∗ atPos ER (sendCell c 0) 0 ∅ 0 ∗ cred (tallyAt (sendCell c 0) () (amt 0))
        ∗ (owing c n ∗ semVal (sendCell c 0) 0 ∗ partAtP c 0 (partAt I c 0) -∗ Kt ⟨⟩))
      ⊢ runs c (rsWaitSend 0) Kt := rsWaitSend_spec I K c 0 n Kt
theorem rsWaitRecv0_spec (Kt : PUnit → sProp 𝕄) :
    iprop(records I K ∗ levAts L lv ∗ owing c 6 ∗ atPos ER (recvCell c 0) 0 ∅ 0 ∗ cred (tallyAt (recvCell c 0) () (amt 0))
        ∗ (owing c 6 ∗ semVal (recvCell c 0) 0 ∗ landP c 0 (landAt I c) -∗ Kt ⟨⟩))
      ⊢ runs c (rsWaitRecv 0) Kt := rsWaitRecv_spec I K c 0 Kt
theorem rsWaitSend1_spec (n : ℕ) (Kt : PUnit → sProp 𝕄) :
    iprop(records I K ∗ levAts L lv ∗ owing c n ∗ atPos ER (sendCell c 1) 0 ∅ 0 ∗ cred (tallyAt (sendCell c 1) () (amt 1))
        ∗ (owing c n ∗ semVal (sendCell c 1) 0 ∗ partAtP c 1 (partAt I c 1) -∗ Kt ⟨⟩))
      ⊢ runs c (rsWaitSend 1) Kt := rsWaitSend_spec I K c 1 n Kt
theorem rsWaitRecv1_spec (Kt : PUnit → sProp 𝕄) :
    iprop(records I K ∗ levAts L lv ∗ owing c 6 ∗ atPos ER (recvCell c 1) 0 ∅ 0 ∗ cred (tallyAt (recvCell c 1) () (amt 1))
        ∗ (owing c 6 ∗ semVal (recvCell c 1) 0 ∗ landP c 1 (landAt I c) -∗ Kt ⟨⟩))
      ⊢ runs c (rsWaitRecv 1) Kt := rsWaitRecv_spec I K c 1 Kt
theorem rsWaitSend2_spec (n : ℕ) (Kt : PUnit → sProp 𝕄) :
    iprop(records I K ∗ levAts L lv ∗ owing c n ∗ atPos ER (sendCell c 2) 0 ∅ 0 ∗ cred (tallyAt (sendCell c 2) () (amt 2))
        ∗ (owing c n ∗ semVal (sendCell c 2) 0 ∗ partAtP c 2 (partAt I c 2) -∗ Kt ⟨⟩))
      ⊢ runs c (rsWaitSend 2) Kt := rsWaitSend_spec I K c 2 n Kt
theorem rsWaitRecv2_spec (Kt : PUnit → sProp 𝕄) :
    iprop(records I K ∗ levAts L lv ∗ owing c 6 ∗ atPos ER (recvCell c 2) 0 ∅ 0 ∗ cred (tallyAt (recvCell c 2) () (amt 2))
        ∗ (owing c 6 ∗ semVal (recvCell c 2) 0 ∗ landP c 2 (landAt I c) -∗ Kt ⟨⟩))
      ⊢ runs c (rsWaitRecv 2) Kt := rsWaitRecv_spec I K c 2 Kt

/-- A chunk's copies started, its keys' and values' places free. -/
theorem start_spec (t : Fin 4) (Kt : PUnit → sProp 𝕄) :
    iprop(semVal ((c : Thread nD τ), kSem t) 0 ∗ semVal ((c : Thread nD τ), vSem t) 0 ∗ srcs I c t ∗ dsts c t
        ∗ (kBatch I c t 8 0 ∗ vBatch I c t 8 0 -∗ Kt ⟨⟩))
      ⊢ runs c (startKV c t) Kt := by
  iintro ⟨H1, H2, H3, H4, Hk⟩
  iapply (startKV_spec I c t Kt)
  isplitl [H1]; · iexact H1
  isplitl [H2]; · iexact H2
  isplitl [H3 H4]
  · iapply (ready_of I c t)
    isplitl [H3] <;> iassumption
  iexact Hk

/-- A chunk's work, with the places of its keys and values left free for chunk `t'`. -/
theorem work_spec (t t' : Fin 4) (h : slot t = slot t') (n : ℕ) (Kt : PUnit → sProp 𝕄) :
    iprop(levAts L lv ∗ owing c n ∗ held I c ∗ kBatch I c t 8 0 ∗ vBatch I c t 8 0 ∗ (∃ g, attnP c g) ∗ (∃ f, partAtP c t f)
        ∗ (owing c n ∗ held I c ∗ srcs I c t ∗ dsts c t'
            ∗ semVal ((c : Thread nD τ), kSem t) 0 ∗ semVal ((c : Thread nD τ), vSem t) 0
            ∗ (∃ g, attnP c g) ∗ partAtP c t (partAt I c t) -∗ Kt ⟨⟩))
      ⊢ runs c (compute c t) Kt := by
  iintro ⟨HL, HO, Hh, HK, HV, Ha, Hp, Hk⟩
  iapply (compute_spec I c t n Kt)
  isplitl [HL]; · iexact HL
  isplitl [HO]; · iexact HO
  isplitl [Hh]; · iexact Hh
  isplitl [HK]; · iexact HK
  isplitl [HV]; · iexact HV
  isplitl [Ha]; · iexact Ha
  isplitl [Hp]; · iexact Hp
  iintro ⟨HO, Hh, HK, HV, Z1, Z2, Ha, Hp⟩
  ihave H := (done_of I c t t' h) $$ [HK HV]
  · isplitl [HK] <;> iassumption
  icases H with ⟨Hs, Hd⟩
  iapply Hk
  isplitl [HO]; · iexact HO
  isplitl [Hh]; · iexact Hh
  isplitl [Hs]; · iexact Hs
  isplitl [Hd]; · iexact Hd
  isplitl [Z1]; · iexact Z1
  isplitl [Z2]; · iexact Z2
  isplitl [Ha] <;> iassumption

/-! ## Start and end -/

/-- The protocol's share of a device: what all know, its own positions, and the tokens of what it pays. -/
def ghost : sProp 𝕄 :=
  iprop(records I K
    ∗ (dutyTok ER (barCell (turn 3 c)) 0 0 ∗ dutyTok ER (barCell (turn 1 c)) 0 2 ∗ dutyTok ER (barCell (turn 2 c)) 0 1)
    ∗ bigSep Finset.univ (sendTok c) ∗ atPos ER (barCell c) 0 ∅ 0
    ∗ bigSep Finset.univ (fun e => (atPos ER (sendCell c e) 0 ∅ 0 : sProp 𝕄)) ∗ bigSep Finset.univ (fun e => (atPos ER (recvCell c e) 0 ∅ 0 : sProp 𝕄)))

/-- The credits for what others pay it. -/
def credits : sProp 𝕄 :=
  iprop(cred (tallyAt (barCell c) () 3) ∗ bigSep Finset.univ (fun e => (cred (tallyAt (recvCell c e) () (amt e)) : sProp 𝕄)))

/-- The caches. -/
def caches : sProp 𝕄 :=
  iprop(((kW).view.loc (c : Thread nD τ) ↦{fullShare} I.k c) ∗ ((vW).view.loc (c : Thread nD τ) ↦{fullShare} I.v c))

/-- The five working buffers, whatever they hold. -/
def scratch : sProp 𝕄 :=
  iprop((∃ f, ((pW).view.loc (c : Thread nD τ) ↦{fullShare} f)) ∗ (∃ f, ((rW).view.loc (c : Thread nD τ) ↦{fullShare} f))
    ∗ (∃ f, ((aW).view.loc (c : Thread nD τ) ↦{fullShare} f)) ∗ (∃ f, ((kbW).view.loc (c : Thread nD τ) ↦{fullShare} f))
    ∗ ∃ f, ((vbW).view.loc (c : Thread nD τ) ↦{fullShare} f))

/-- The semaphores of the key and value copies. -/
def kvSems : sProp 𝕄 :=
  iprop(semVal ((c : Thread nD τ), kSem 0) 0 ∗ semVal ((c : Thread nD τ), kSem 1) 0
    ∗ semVal ((c : Thread nD τ), vSem 0) 0 ∗ semVal ((c : Thread nD τ), vSem 1) 0)

/-- The protocol's cells, closed. -/
def closed : sProp 𝕄 :=
  iprop(semVal (barCell c) 0 ∗ bigSep Finset.univ (fun e => (semVal (sendCell c e) 0 : sProp 𝕄))
    ∗ bigSep Finset.univ (fun e => (semVal (recvCell c e) 0 : sProp 𝕄)))

theorem kSem_two : kSem 2 = kSem 0 := rfl
theorem kSem_three : kSem 3 = kSem 1 := rfl
theorem vSem_two : vSem 2 = vSem 0 := rfl
theorem vSem_three : vSem 3 = vSem 1 := rfl

set_option maxHeartbeats 2000000 in
theorem steps_spec (Kt : PUnit → sProp 𝕄) :
    iprop(ghost I K c ∗ credits c ∗ levAts L lv ∗ owing c 0 ∗ held I c ∗ caches I c
        ∗ (∃ f, ((oW).view.loc (c : Thread nD τ) ↦{fullShare} f)) ∗ scratch c ∗ kvSems c
        ∗ (owing c 10 ∗ held I c ∗ caches I c ∗ ((oW).view.loc (c : Thread nD τ) ↦{fullShare} fin I) ∗ scratch c ∗ kvSems c ∗ closed c
            -∗ Kt ⟨⟩))
      ⊢ runs c steps Kt := by
  unfold steps runs ghost credits caches scratch kvSems
  simp only [Prog.lift, Prog.bind_op, Prog.bind_ret, wp_deviceId]
  rw [kv_split, bigSep_seven, bigSep_seven, bigSep_seven, bigSep_seven]
  rw [wp_bind]
  iintro ⟨⟨#HR, HtB, ⟨T0, T1, T2, T3, T4, T5, T6⟩, PB, ⟨A0, A1, A2, A3, A4, A5, A6⟩, ⟨B0, B1, B2, B3, B4, B5, B6⟩⟩,
    ⟨CB, C0, C1, C2, C3, C4, C5, C6⟩, #HL, HO, Hh, ⟨K0, K1, K2, K3⟩, ⟨%fo, Ho⟩,
    ⟨⟨%fp, Hp⟩, ⟨%fr, Hr⟩, Ha, ⟨%fk, Hkb⟩, ⟨%fv, Hvb⟩⟩, ⟨Zk0, Zk1, Zv0, Zv1⟩, Hk⟩
  ihave Ho := (Entails.of_eq (out_split c fo)) $$ Ho
  icases Ho with ⟨Hown, O0, O1, O2, O3⟩
  ihave Hp := (Entails.of_eq (part_split c fp)) $$ Hp
  icases Hp with ⟨Hp0, Hp1⟩
  ihave Hr := (Entails.of_eq (land_split c fr)) $$ Hr
  icases Hr with ⟨L0, L1, L2⟩
  ihave Hb := (buf_split c fk fv) $$ [Hkb Hvb]
  · isplitl [Hkb] <;> iassumption
  icases Hb with ⟨D0, D1⟩
  iapply (greet_spec I K c)
  isplitr; · iexact HR
  isplitr; · iexact HL
  isplitl [HO]; · iexact HO
  isplitl [HtB]; · iexact HtB
  isplitl [L0 L1 L2 O0 O1 O2 O3]
  · unfold spot
    isplitl [L0]; · iexists fr; iexact L0
    isplitl [L1]; · iexists fr; iexact L1
    isplitl [L2]; · iexists fr; iexact L2
    isplitl [O0]; · iexists fo; iexact O0
    isplitl [O1]; · iexists fo; iexact O1
    isplitl [O2]; · iexists fo; iexact O2
    iexists fo; iexact O3
  isplitl [PB]; · iexact PB
  isplitl [CB]; · iexact CB
  iintro ⟨HO, ZB, HB⟩
  ihave HB := (show iprop(barPay c 0 ∗ barPay c 1 ∗ barPay c 2)
    ⊢ iprop((spot (turn 1 c) 2 ∗ spot (turn 1 c) 3 ∗ spot (turn 1 c) 5) ∗ spot (turn 2 c) 1
      ∗ (spot (turn 3 c) 0 ∗ spot (turn 3 c) 4 ∗ spot (turn 3 c) 6)) from .rfl) $$ HB
  icases HB with ⟨⟨S2, S3, S5⟩, S1, ⟨S0, S4, S6⟩⟩
  rw [wp_bind]
  iapply (start_spec I c 0)
  isplitl [Zk0]; · iexact Zk0
  isplitl [Zv0]; · iexact Zv0
  isplitl [K0]; · iexact K0
  isplitl [D0]; · iexact D0
  iintro ⟨BK0, BV0⟩
  rw [wp_bind]
  iapply (start_spec I c 1)
  isplitl [Zk1]; · iexact Zk1
  isplitl [Zv1]; · iexact Zv1
  isplitl [K1]; · iexact K1
  isplitl [D1]; · iexact D1
  iintro ⟨BK1, BV1⟩
  rw [wp_bind]
  iapply (work_spec I c 0 2 rfl 3)
  isplitr; · iexact HL
  isplitl [HO]; · iexact HO
  isplitl [Hh]; · iexact Hh
  isplitl [BK0]; · iexact BK0
  isplitl [BV0]; · iexact BV0
  isplitl [Ha]; · unfold attnP; iexact Ha
  isplitl [Hp0]; · iexists fp; iexact Hp0
  iintro ⟨HO, Hh, K0, D2, Zk0, Zv0, Ha, Hp0⟩
  rw [wp_bind]
  iapply (rsSend0_spec I K c)
  isplitr; · iexact HR
  isplitl [Hp0]; · iexact Hp0
  isplitl [S0]; · iexact S0
  isplitl [HO]; · iexact HO
  isplitl [T0]; · iexact T0
  iintro ⟨X0, HO⟩
  rw [wp_bind]
  iapply (start_spec I c 2)
  isplitl [Zk0]; · rw [kSem_two]; iexact Zk0
  isplitl [Zv0]; · rw [vSem_two]; iexact Zv0
  isplitl [K2]; · iexact K2
  isplitl [D2]; · iexact D2
  iintro ⟨BK2, BV2⟩
  rw [wp_bind]
  iapply (work_spec I c 1 3 rfl 4)
  isplitr; · iexact HL
  isplitl [HO]; · iexact HO
  isplitl [Hh]; · iexact Hh
  isplitl [BK1]; · iexact BK1
  isplitl [BV1]; · iexact BV1
  isplitl [Ha]; · iexact Ha
  isplitl [Hp1]; · iexists fp; iexact Hp1
  iintro ⟨HO, Hh, K1, D3, Zk1, Zv1, Ha, Hp1⟩
  rw [wp_bind]
  iapply (rsSend1_spec I K c)
  isplitr; · iexact HR
  isplitl [Hp1]; · iexact Hp1
  isplitl [S1]; · iexact S1
  isplitl [HO]; · iexact HO
  isplitl [T1]; · iexact T1
  iintro ⟨X1, HO⟩
  rw [wp_bind]
  iapply (start_spec I c 3)
  isplitl [Zk1]; · rw [kSem_three]; iexact Zk1
  isplitl [Zv1]; · rw [vSem_three]; iexact Zv1
  isplitl [K3]; · iexact K3
  isplitl [D3]; · iexact D3
  iintro ⟨BK3, BV3⟩
  rw [wp_bind]
  iapply (rsWaitSend0_spec I K c 5)
  isplitr; · iexact HR
  isplitr; · iexact HL
  isplitl [HO]; · iexact HO
  isplitl [A0]; · iexact A0
  isplitl [X0]; · iexact X0
  iintro ⟨HO, ZS0, Hp⟩
  ihave Hp2 := (part_again c 0 2 rfl (partAt I c 0)) $$ Hp
  rw [wp_bind]
  iapply (work_spec I c 2 2 rfl 5)
  isplitr; · iexact HL
  isplitl [HO]; · iexact HO
  isplitl [Hh]; · iexact Hh
  isplitl [BK2]; · iexact BK2
  isplitl [BV2]; · iexact BV2
  isplitl [Ha]; · iexact Ha
  isplitl [Hp2]; · iexact Hp2
  iintro ⟨HO, Hh, K2, D2, Zk0, Zv0, Ha, Hp2⟩
  rw [wp_bind]
  iapply (rsSend2_spec I K c)
  isplitr; · iexact HR
  isplitl [Hp2]; · iexact Hp2
  isplitl [S2]; · iexact S2
  isplitl [HO]; · iexact HO
  isplitl [T2]; · iexact T2
  iintro ⟨X2, HO⟩
  rw [wp_bind]
  iapply (rsWaitSend1_spec I K c 6)
  isplitr; · iexact HR
  isplitr; · iexact HL
  isplitl [HO]; · iexact HO
  isplitl [A1]; · iexact A1
  isplitl [X1]; · iexact X1
  iintro ⟨HO, ZS1, Hp⟩
  ihave Hp3 := (part_again c 1 3 rfl (partAt I c 1)) $$ Hp
  rw [wp_bind]
  iapply (work_spec I c 3 3 rfl 6)
  isplitr; · iexact HL
  isplitl [HO]; · iexact HO
  isplitl [Hh]; · iexact Hh
  isplitl [BK3]; · iexact BK3
  isplitl [BV3]; · iexact BV3
  isplitl [Ha]; · iexact Ha
  isplitl [Hp3]; · iexact Hp3
  iintro ⟨HO, Hh, K3, D3, Zk1, Zv1, Ha, Hp3⟩
  rw [wp_bind]
  iapply (rsWaitRecv0_spec I K c)
  isplitr; · iexact HR
  isplitr; · iexact HL
  isplitl [HO]; · iexact HO
  isplitl [B0]; · iexact B0
  isplitl [C0]; · iexact C0
  iintro ⟨HO, ZR0, L0⟩
  rw [wp_bind]
  iapply (rsWaitRecv1_spec I K c)
  isplitr; · iexact HR
  isplitr; · iexact HL
  isplitl [HO]; · iexact HO
  isplitl [B1]; · iexact B1
  isplitl [C1]; · iexact C1
  iintro ⟨HO, ZR1, L1⟩
  rw [wp_bind]
  iapply (rsWaitRecv2_spec I K c)
  isplitr; · iexact HR
  isplitr; · iexact HL
  isplitl [HO]; · iexact HO
  isplitl [B2]; · iexact B2
  isplitl [C2]; · iexact C2
  iintro ⟨HO, ZR2, L2⟩
  rw [wp_bind]
  iapply (total_spec I c)
  isplitl [Hp3]; · iexact Hp3
  isplitl [L0 L1 L2]
  · unfold allLanded
    isplitl [L0]; · iexact L0
    isplitl [L1] <;> iassumption
  isplitl [Hown]; · iexists fo; iexact Hown
  iintro ⟨Hp3, HLd, Hown⟩
  rw [wp_bind]
  iapply (gather_spec I K c)
  isplitr; · iexact HR
  isplitr; · iexact HL
  isplitl [HO]; · iexact HO
  isplitl [Hown]; · iexact Hown
  isplitl [S3 S4 S5 S6]
  · isplitl [S3]; · iexact S3
    isplitl [S4]; · iexact S4
    isplitl [S5] <;> iassumption
  isplitl [T3 T4 T5 T6]
  · isplitl [T3]; · iexact T3
    isplitl [T4]; · iexact T4
    isplitl [T5] <;> iassumption
  isplitl [B3 B4 B5 B6 C3 C4 C5 C6]
  · unfold recvWait
    isplitl [B3 C3]; · isplitl [B3] <;> iassumption
    isplitl [B4 C4]; · isplitl [B4] <;> iassumption
    isplitl [B5 C5]; · isplitl [B5] <;> iassumption
    isplitl [B6] <;> iassumption
  iintro ⟨HO, ⟨Hpr, Hnr, O2, O3⟩, ⟨X3, X4, X5, X6⟩, ⟨ZR3, ZR4, ZR5, ZR6⟩⟩
  iapply (drain_spec I K c)
  isplitr; · iexact HR
  isplitr; · iexact HL
  isplitl [HO]; · iexact HO
  isplitl [A2 A3 A4 A5 A6 X2 X3 X4 X5 X6]
  · unfold sendWait
    isplitl [A2 X2]; · isplitl [A2] <;> iassumption
    isplitl [A3 X3]; · isplitl [A3] <;> iassumption
    isplitl [A4 X4]; · isplitl [A4] <;> iassumption
    isplitl [A5 X5]; · isplitl [A5] <;> iassumption
    isplitl [A6] <;> iassumption
  iintro ⟨HO, Hp2, Hown, HpT, HnL, ⟨ZS2, ZS3, ZS4, ZS5, ZS6⟩⟩
  ihave O0 := (prev_split c (fin I)).2 $$ [HpT Hpr]
  · isplitl [HpT] <;> iassumption
  ihave O1 := (next_split c (fin I)).2 $$ [HnL Hnr]
  · isplitl [HnL] <;> iassumption
  iapply Hk
  isplitl [HO]; · iexact HO
  isplitl [Hh]; · iexact Hh
  isplitl [K0 K1 K2 K3]
  · isplitl [K0]; · iexact K0
    isplitl [K1]; · iexact K1
    isplitl [K2] <;> iassumption
  isplitl [Hown O0 O1 O2 O3]
  · rw [out_split]
    isplitl [Hown]; · iexact Hown
    isplitl [O0]; · iexact O0
    isplitl [O1]; · iexact O1
    isplitl [O2] <;> iassumption
  isplitl [Hp2 Hp3 HLd Ha D2 D3]
  · isplitl [Hp2 Hp3]
    · iapply (part_join c (partAt I c 2) (partAt I c 3))
      isplitl [Hp2] <;> iassumption
    isplitl [HLd]
    · iexists (landAt I c)
      rw [land_split]
      unfold allLanded
      iexact HLd
    isplitl [Ha]; · unfold attnP; iexact Ha
    iapply (@buf_join F _ c ⟨fk⟩)
    isplitl [D2] <;> iassumption
  isplitl [Zk0 Zk1 Zv0 Zv1]
  · isplitl [Zk0]; · rw [← kSem_two]; iexact Zk0
    isplitl [Zk1]; · rw [← kSem_three]; iexact Zk1
    isplitl [Zv0]; · rw [← vSem_two]; iexact Zv0
    rw [← vSem_three]; iexact Zv1
  unfold closed
  rw [bigSep_seven, bigSep_seven]
  isplitl [ZB]; · iexact ZB
  isplitl [ZS0 ZS1 ZS2 ZS3 ZS4 ZS5 ZS6]
  · isplitl [ZS0]; · iexact ZS0
    isplitl [ZS1]; · iexact ZS1
    isplitl [ZS2]; · iexact ZS2
    isplitl [ZS3]; · iexact ZS3
    isplitl [ZS4]; · iexact ZS4
    isplitl [ZS5] <;> iassumption
  isplitl [ZR0]; · iexact ZR0
  isplitl [ZR1]; · iexact ZR1
  isplitl [ZR2]; · iexact ZR2
  isplitl [ZR3]; · iexact ZR3
  isplitl [ZR4]; · iexact ZR4
  isplitl [ZR5] <;> iassumption

end Whole

end Cert.KernelIdeal.Body
-- ==== Proof.BodyEq.lean ====
/-
  The printed body is the program over steps.
-/
module

public import proofs.«01_k».proof.Proof.Steps

@[expose] public section

set_option maxRecDepth 65536

noncomputable section

namespace Cert.KernelIdeal.Body

open Cert.KernelIdeal Cert.KernelIdeal.Gen
open Idealize.ShloMosaic

variable {F : FTy → Type} [FloatOps F]

set_option maxHeartbeats 8000000 in
/-- Step by step, the two are the same operations on the same views. -/
theorem body_eq :
    cc0_body (F := F) xW (Memref.isWhole_whole _) wqW (Memref.isWhole_whole _) woW (Memref.isWhole_whole _)
      kW (Memref.isWhole_whole _) vW (Memref.isWhole_whole _) oW (Memref.isWhole_whole _) pW (Memref.isWhole_whole _)
      rW (Memref.isWhole_whole _) aW (Memref.isWhole_whole _) kbW (Memref.isWhole_whole _) vbW (Memref.isWhole_whole _)
      cc0_scratch5 cc0_scratch6 cc0_scratch7 cc0_scratch8 cc0_scratch9 cc0_scratch10 = steps := by
  rfl

end Cert.KernelIdeal.Body
-- ==== Proof.Start.lean ====
/-
  The one grid point: what the launch stages for the body, and the body's obligation there.
-/
module

public import proofs.«01_k».proof.Proof.Whole
public import proofs.«01_k».proof.Proof.BodyEq
public import proofs.«01_k».proof.Proof.Gen.KernelIdeal.Points

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The inputs, out of a memory -/

theorem zero0 : (fun a => (win0_0.index (0 : Fin 1)) a * main_arg0.ty.shape.size a) = fun _ => 0 :=
  funext fun a => by fin_cases a <;> decide
theorem zero1 : (fun a => (win0_1.index (0 : Fin 1)) a * main_arg1.ty.shape.size a) = fun _ => 0 :=
  funext fun a => by fin_cases a <;> decide
theorem zero2 : (fun a => (win0_2.index (0 : Fin 1)) a * main_arg4.ty.shape.size a) = fun _ => 0 :=
  funext fun a => by fin_cases a <;> decide
theorem zero3 : (fun a => (win0_3.index (0 : Fin 1)) a * main_v1.ty.shape.size a) = fun _ => 0 :=
  funext fun a => by fin_cases a <;> decide

/-- Every window's block is its whole array. -/
theorem block0 (f : main_arg0.ty.Contents (Elt F)) : (win0_0.blk (0 : Fin 1)).view.read (Elt F) f = f :=
  Memref.read_access_unit_zero (Elt F) main_arg0 zero0 (fun a => by fin_cases a <;> decide) f
theorem block1 (f : main_arg1.ty.Contents (Elt F)) : (win0_1.blk (0 : Fin 1)).view.read (Elt F) f = f :=
  Memref.read_access_unit_zero (Elt F) main_arg1 zero1 (fun a => by fin_cases a <;> decide) f
theorem block2 (f : main_arg4.ty.Contents (Elt F)) : (win0_2.blk (0 : Fin 1)).view.read (Elt F) f = f :=
  Memref.read_access_unit_zero (Elt F) main_arg4 zero2 (fun a => by fin_cases a <;> decide) f
theorem block3 (f : main_v1.ty.Contents (Elt F)) : (win0_3.blk (0 : Fin 1)).view.read (Elt F) f = f :=
  Memref.read_access_unit_zero (Elt F) main_v1 zero3 (fun a => by fin_cases a <;> decide) f

/-- The devices' arguments. -/
def ins : Ins F where
  x c := m ((c : Thread nD τ).loc main_arg0)
  wq c := m ((c : Thread nD τ).loc main_arg1)
  k c := m ((c : Thread nD τ).loc main_arg2)
  v c := m ((c : Thread nD τ).loc main_arg3)
  wo c := m ((c : Thread nD τ).loc main_arg4)

/-! ## The proof data of the launch -/

/-- What a device starts from, besides its buffers. -/
def start (c : Dev nD) : sProp 𝕄 :=
  iprop((∃ K, ghost (ins m) K c) ∗ credits c ∗ levAts L lv ∗ kvSems c ∗ caches (ins m) c)

def before₀ (c : Dev nD) : sProp 𝕄 := iprop(start m c ∗ scratch c)
def after₀ (c : Dev nD) : sProp 𝕄 := iprop(caches (ins m) c ∗ scratch c ∗ kvSems c ∗ closed c)

def dats (_ : Fin 1) (c : Dev nD) : Dat τ (Elt F) Unit ℕ UU ℕ cfg0 c where
  A w := m ((cfg0.win w).arr.view.loc (c : Thread nD τ))
  after w _ := match w with
    | ⟨0, _⟩ => (ins m).x c
    | ⟨1, _⟩ => (ins m).wq c
    | ⟨2, _⟩ => (ins m).wo c
    | ⟨3, _⟩ => fin (ins m)
  Φ t := match t with
    | ⟨0, _⟩ => before₀ m c
    | ⟨_ + 1, _⟩ => after₀ m c
  q _ := fullShare
  owed t := match t with
    | ⟨0, _⟩ => due c 0
    | ⟨_ + 1, _⟩ => 0

theorem windows (Φ : Fin cfg0.W → sProp 𝕄) :
    bigSep Finset.univ Φ = iprop(Φ (0 : Fin 4) ∗ Φ (1 : Fin 4) ∗ Φ (2 : Fin 4) ∗ Φ (3 : Fin 4)) := bigSep_W0 Φ

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(before₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def post (c : Dev nD) : sProp 𝕄 :=
  iprop(after₀ m c ∗ (dats m 0 c).owesAt () t0_0.succ
    ∗ stg c cc0_stg0_0 ((ins m).x c) ∗ stg c cc0_stg1_0 ((ins m).wq c) ∗ stg c cc0_stg2_0 ((ins m).wo c)
    ∗ stg c cc0_stg3_0 (fin (ins m)))

theorem before_x (c : Dev nD) (d) : (dats m 0 c).before (0 : Fin 4) t0_0 d = (ins m).x c := by
  unfold Dat.before; rw [if_pos (fetch0_0 t0_0)]; exact block0 (m ((c : Thread nD τ).loc main_arg0))
theorem before_wq (c : Dev nD) (d) : (dats m 0 c).before (1 : Fin 4) t0_0 d = (ins m).wq c := by
  unfold Dat.before; rw [if_pos (fetch0_1 t0_0)]; exact block1 (m ((c : Thread nD τ).loc main_arg1))
theorem before_wo (c : Dev nD) (d) : (dats m 0 c).before (2 : Fin 4) t0_0 d = (ins m).wo c := by
  unfold Dat.before; rw [if_pos (fetch0_2 t0_0)]; exact block2 (m ((c : Thread nD τ).loc main_arg4))

theorem body_spec (c : Dev nD) : pre m c ⊢ runs c (steps (F := F)) (fun _ => post m c) := by
  unfold pre before₀ start
  iintro ⟨⟨⟨⟨%K, Hg⟩, Hcr, HL, Hkv, Hca⟩, Hs⟩, Ho, ⟨%d0, %g0, %h0, H0⟩, ⟨%d1, %g1, %h1, H1⟩, ⟨%d2, %g2, %h2, H2⟩, ⟨%d3, %g3, -, H3⟩⟩
  have e0 : g0 = (ins m).x c := h0.trans (before_x m c d0)
  have e1 : g1 = (ins m).wq c := h1.trans (before_wq m c d1)
  have e2 : g2 = (ins m).wo c := h2.trans (before_wo m c d2)
  subst e0 e1 e2
  unfold Dat.owesAt Pipeline.owesWithin
  icases Ho with ⟨%W, %hW, HO⟩
  iapply (steps_spec (ins m) K c)
  isplitl [Hg]; · iexact Hg
  isplitl [Hcr]; · iexact Hcr
  isplitl [HL]; · iexact HL
  isplitl [HO]; · unfold owing; iexists W; iexact HO
  isplitl [H0 H1 H2]
  · unfold held
    isplitl [H0]; · iexact H0
    isplitl [H1]; · iexact H1
    iexact H2
  isplitl [Hca]; · iexact Hca
  isplitl [H3]; · iexists g3; iexact H3
  isplitl [Hs]; · iexact Hs
  isplitl [Hkv]; · iexact Hkv
  unfold held
  iintro ⟨HO, ⟨H0, H1, H2⟩, Hca, H3, Hs, Hkv, Hcl⟩
  unfold post after₀ Dat.owesAt Pipeline.owesWithin owing
  icases HO with ⟨%W', HO⟩
  isplitl [Hca Hs Hkv Hcl]
  · isplitl [Hca]; · iexact Hca
    isplitl [Hs]; · iexact Hs
    isplitl [Hkv] <;> iassumption
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

/-- The launch's obligation for the body. -/
theorem body_obligation (c : Dev nD) :
    BodyObligation (dats (F := F) m 0 c) (defs₀ (F := F)) 𝒱₀ () Set.univ := fun t => by
  rw [fin_N0 t]
  rw [windows, windows]
  simp only [owns_eq]
  show pre m c ⊢ runs c (cc0_body (F := F) xW (Memref.isWhole_whole _) wqW (Memref.isWhole_whole _) woW (Memref.isWhole_whole _)
      kW (Memref.isWhole_whole _) vW (Memref.isWhole_whole _) oW (Memref.isWhole_whole _) pW (Memref.isWhole_whole _)
      rW (Memref.isWhole_whole _) aW (Memref.isWhole_whole _) kbW (Memref.isWhole_whole _) vbW (Memref.isWhole_whole _)
      cc0_scratch5 cc0_scratch6 cc0_scratch7 cc0_scratch8 cc0_scratch9 cc0_scratch10) (fun _ => post m c)
  rw [body_eq]
  exact body_spec m c

end Cert.KernelIdeal.Body
-- ==== Proof.Launch.lean ====
/-
  The launch: the protocol's cells and tokens are made, dealt out to the devices that use them, and the run of all four
  devices follows from the body's obligation.
-/
module

public import proofs.«01_k».proof.Proof.Start
public import Idealize.ShloMosaic.Lib.Pipeline.CollectiveSegs

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's semaphores -/

/-- The kernel's own semaphores: those of the key and value copies, and those of the exchanges. -/
def osem : Fin 4 ⊕ (Exch × Bool) → SemLoc sig
  | .inl i => (![kSem 0, kSem 1, vSem 0, vSem 1] : Fin 4 → SemLoc sig) i
  | .inr e => csem (some e)

theorem ownSemFacts : Pipeline.OwnSemFacts cfg0.spec osem := by decide

theorem csem_injective : Function.Injective csem := fun a b h =>
  Option.some.inj ((kind_csem a).symm.trans ((congrArg kind h).trans (kind_csem b)))
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- A conjunction over the exchanges' cells, by the two kinds. -/
theorem bigSep_kinds (Φ : Exch × Bool → sProp 𝕄) :
    bigSep Finset.univ Φ = iprop(bigSep Finset.univ (fun e => Φ (e, false)) ∗ bigSep Finset.univ (fun e => Φ (e, true))) := by
  rw [bigSep_univ_prod, ← bigSep_sep']
  exact bigSep_congr fun e _ => bigSep_univ_eq_bigSepL [false, true] (by decide) (by decide) _
/-- A conjunction over a device's cells: the barrier's, and the two kinds. -/
theorem bigSep_cells (Φ : Cell → sProp 𝕄) :
    bigSep Finset.univ Φ = iprop(Φ none ∗ bigSep Finset.univ (fun e => Φ (some (e, false)))
      ∗ bigSep Finset.univ (fun e => Φ (some (e, true)))) := by
  rw [bigSep_univ_at Φ none, show (Finset.univ : Finset Cell).erase none = Finset.univ.map Function.Embedding.some by decide,
    bigSep_map, bigSep_kinds]
  rfl

theorem ownSems_eq (c : Dev nD) :
    (Pipeline.ownSems0 (Ix := Unit) (Name := ℕ) (U := UU) (Lvl := ℕ) (Val := Elt F) (τ := τ) osem c : sProp 𝕄)
      = iprop(kvSems c ∗ bigSep Finset.univ (fun e => (semVal (sendCell c e) 0 : sProp 𝕄))
          ∗ bigSep Finset.univ (fun e => (semVal (recvCell c e) 0 : sProp 𝕄))) := by
  unfold Pipeline.ownSems0
  rw [bigSep_univ_sum, bigSep_four, bigSep_kinds]
  rfl
/-- The barrier is the launch's one semaphore that outlives the kernel. -/
theorem unscopedSems_eq (c : Dev nD) : (unscopedSems0 c : sProp 𝕄) = semVal (barCell c) 0 := by
  unfold unscopedSems0
  rw [bigSep_eq_bigSepL_of_eq [SemLoc.reg barS.sem] (by decide) (by decide)]; rfl

theorem share_eq (c : Dev nD) (w : Fin cfg0.W) : (dats m 0 c).share w = fullShare := by
  unfold Dat.share; split <;> rfl

/-! ## The cells and tokens that are made -/

/-- A device's tokens as they are made: its barrier's three, and one of every cell of an exchange. -/
def tokOf (ct : Dev nD × (Fin 3 ⊕ (Exch × Bool))) : GSem nD τ sig × ℕ × Fin 3 :=
  match ct.2 with
  | .inl d => (barCell ct.1, 0, d)
  | .inr e => (kcell (ct.1, some e), 0, 0)

theorem tokOf_injective : Function.Injective tokOf := by
  rintro ⟨c, d | e⟩ ⟨c', d' | e'⟩ h
  · have h1 := kcell_injective (congrArg Prod.fst h)
    have h2 : d = d' := congrArg (fun x : GSem nD τ sig × ℕ × Fin 3 => x.2.2) h
    have h3 : c = c' := congrArg Prod.fst h1
    rw [h3, h2]
  · exact absurd (Prod.mk.inj (kcell_injective (congrArg Prod.fst h))).2 (by simp)
  · exact absurd (Prod.mk.inj (kcell_injective (congrArg Prod.fst h))).2 (by simp)
  · have h1 := Prod.mk.inj (kcell_injective (congrArg Prod.fst h))
    have h3 : c = c' := h1.1
    rw [h3, Option.some.inj h1.2]

def allCells : Finset (GSem nD τ sig) := Finset.univ.map ⟨kcell, kcell_injective⟩
def allToks : Finset (GSem nD τ sig × ℕ × Fin 3) := Finset.univ.map ⟨tokOf, tokOf_injective⟩

def u₀ : UU :=
  (initOf (Pipeline.cells cfgs cellOf_inj) (Pipeline.launchToks cfgs cellOf_inj), (initOf allCells allToks, (1 : Counters)))

/-- The tokens of a device's own cells. -/
def ownToks (c : Dev nD) : sProp 𝕄 :=
  iprop((dutyTok ER (barCell c) 0 0 ∗ dutyTok ER (barCell c) 0 1 ∗ dutyTok ER (barCell c) 0 2)
    ∗ bigSep Finset.univ (fun e => (dutyTok ER (sendCell c e) 0 0 : sProp 𝕄))
    ∗ bigSep Finset.univ (fun e => (dutyTok ER (recvCell c e) 0 0 : sProp 𝕄)))
/-- The tokens of what a device pays. -/
def payToks (c : Dev nD) : sProp 𝕄 :=
  iprop((dutyTok ER (barCell (turn 3 c)) 0 0 ∗ dutyTok ER (barCell (turn 1 c)) 0 2 ∗ dutyTok ER (barCell (turn 2 c)) 0 1)
    ∗ bigSep Finset.univ (sendTok (F := F) c))

/-- A device's positions, and that its cells have reached them. -/
def places (c : Dev nD) : sProp 𝕄 :=
  bigSep Finset.univ fun k : Cell => iprop(atPos ER (kcell (c, k)) 0 ∅ 0 ∗ reached ER (kcell (c, k)) 0)

/-- What is made for a device. -/
def made (c : Dev nD) : sProp 𝕄 :=
  iprop((bigSep Finset.univ fun k : Cell => roundState ER (sched (ins m)) (kcell (c, k)) 0) ∗ places c ∗ ownToks c)

theorem fund : BI.own (ER (initOf allCells allToks)) ⊢ (|==> bigSep Finset.univ (made m) : sProp 𝕄) := by
  have hX (Φ : GSem nD τ sig → sProp 𝕄) :
      bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by
      rw [bigSep_univ_sum, bigSep_three, bigSep_kinds]; rfl
  iintro HX
  imod (Rounds.fund ER (sched (ins m)) allCells allToks) $$ HX with ⟨Hst, Hr, Hat, Htok⟩
  imodintro
  ihave Hst' := (Entails.of_eq (hX fun g => roundState ER (sched (ins m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold made places; simp only [bigSep_sep']
  isplitl [Hst']; · iexact Hst'
  isplitl [Hat' Hr']
  · isplitl [Hat'] <;> iassumption
  iexact Htok'

/-! ## The cells' invariants, and the tokens dealt out -/

/-- A device's part after its cells' invariants are made. -/
def opened (c : Dev nD) : sProp 𝕄 :=
  iprop((bigSep Finset.univ fun k : Cell => iprop(∃ κ : ℕ, cellInv ER (sched (ins m)) κ (kcell (c, k))))
    ∗ places c ∗ ownToks c ∗ kvSems c)

theorem open_cells (c : Dev nD) :
    iprop((bigSep Finset.univ fun k : Cell => semVal (kcell (c, k)) 0)
        ∗ bigSep Finset.univ fun k : Cell => roundState ER (sched (ins m)) (kcell (c, k)) 0)
      ⊢ (|={Set.univ}=> bigSep Finset.univ fun k : Cell => iprop(∃ κ : ℕ, cellInv ER (sched (ins m)) κ (kcell (c, k))) : sProp 𝕄) := by
  rw [← bigSep_sep']
  exact (bigSep_mono fun k _ => (Rounds.body_intro ER (sched (ins m)) (kcell (c, k))).trans inv_alloc).trans (bigSep_fupd _ _)

theorem open_device (c : Dev nD) :
    iprop(Pipeline.ownSems0 (Ix := Unit) (Name := ℕ) (U := UU) (Lvl := ℕ) (Val := Elt F) (τ := τ) osem c
        ∗ unscopedSems0 c ∗ made m c)
      ⊢ (|={Set.univ}=> opened m c : sProp 𝕄) := by
  rw [ownSems_eq, unscopedSems_eq]
  unfold made opened
  iintro ⟨⟨Hkv, HS, HV⟩, HB, Hst, Hpl, Htok⟩
  imod (open_cells m c) $$ [HS HV HB Hst] with Hinv
  · isplitr [Hst]
    · rw [bigSep_cells]
      isplitl [HB]; · iexact HB
      isplitl [HS] <;> iassumption
    iexact Hst
  imodintro
  isplitl [Hinv]; · iexact Hinv
  isplitl [Hpl]; · iexact Hpl
  isplitl [Htok] <;> iassumption

/-- The devices, turned by `k` places. -/
def turned (k : ℕ) : Dev nD ≃ Dev nD where
  toFun := turn k
  invFun := turn (3 * k)
  left_inv c := by rw [turn_turn]; exact Fin.ext (by have h : c.val < 4 := c.isLt; simp only [turn]; omega)
  right_inv c := by rw [turn_turn]; exact Fin.ext (by have h : c.val < 4 := c.isLt; simp only [turn]; omega)

/-- Every token goes to the device that pays with it. -/
theorem toks_dealt : (bigSep Finset.univ fun c : Dev nD => (ownToks c : sProp 𝕄)) ⊢ bigSep Finset.univ fun c : Dev nD => payToks c := by
  have h : (bigSep Finset.univ fun c : Dev nD => bigSep Finset.univ fun e : Exch => (dutyTok ER (recvCell c e) 0 0 : sProp 𝕄))
      = bigSep Finset.univ fun c : Dev nD => bigSep Finset.univ fun e : Exch => (dutyTok ER (recvCell (goal e c) e) 0 0 : sProp 𝕄) := by
    rw [bigSep_univ_comm, bigSep_univ_comm (fun (c : Dev nD) (e : Exch) => (dutyTok ER (recvCell (goal e c) e) 0 0 : sProp 𝕄))]
    exact bigSep_congr fun e _ => bigSep_univ_equiv (turned (hop e)) (fun c : Dev nD => (dutyTok ER (recvCell c e) 0 0 : sProp 𝕄))
  unfold ownToks payToks
  have hs (c : Dev nD) : bigSep Finset.univ (sendTok (F := F) c) = iprop(bigSep Finset.univ (fun e => (dutyTok ER (sendCell c e) 0 0 : sProp 𝕄))
      ∗ bigSep Finset.univ (fun e => (dutyTok ER (recvCell (goal e c) e) 0 0 : sProp 𝕄))) := by
    unfold sendTok; rw [bigSep_sep']
  simp only [hs]
  simp only [bigSep_sep']
  rw [h, bigSep_univ_equiv (turned 3) (fun c : Dev nD => (dutyTok ER (barCell c) 0 0 : sProp 𝕄)),
    bigSep_univ_equiv (turned 2) (fun c : Dev nD => (dutyTok ER (barCell c) 0 1 : sProp 𝕄)),
    bigSep_univ_equiv (turned 1) (fun c : Dev nD => (dutyTok ER (barCell c) 0 2 : sProp 𝕄))]
  iintro ⟨⟨H0, H1, H2⟩, H3, H4⟩
  isplitl [H0 H1 H2]
  · isplitl [H0]; · iexact H0
    isplitl [H2]; · iexact H2
    iexact H1
  isplitl [H3] <;> iassumption

/-- What a device's body is given of the protocol. -/
def given (c : Dev nD) : sProp 𝕄 := iprop((∃ K, ghost (ins m) K c) ∗ kvSems c)

theorem given_intro (K : Dev nD × Cell → ℕ) (c : Dev nD) :
    iprop(records (ins m) K ∗ (bigSep Finset.univ (fun k : Cell => (atPos ER (kcell (c, k)) 0 ∅ 0 : sProp 𝕄)) ∗ payToks c ∗ kvSems c))
      ⊢ given m c := by
  rw [bigSep_cells]
  unfold given ghost payToks
  iintro ⟨#HR, ⟨PB, PS, PV⟩, ⟨T1, T2⟩, Hkv⟩
  isplitr [Hkv]
  · iexists K
    isplitr; · iexact HR
    isplitl [T1]; · iexact T1
    isplitl [T2]; · iexact T2
    isplitl [PB]; · iexact PB
    isplitl [PS] <;> iassumption
  iexact Hkv

/-- Something everybody knows may be used at every place of a conjunction. -/
theorem bigSep_knowing {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal : (bigSep Finset.univ fun c : Dev nD => (opened m c : sProp 𝕄)) ⊢ bigSep Finset.univ (given m) := by
  unfold opened places
  simp only [bigSep_sep']
  rw [← bigSep_univ_prod (fun ck : Dev nD × Cell => iprop(∃ κ : ℕ, cellInv ER (sched (ins m)) κ (kcell ck))),
    ← bigSep_univ_prod (fun ck : Dev nD × Cell => (reached ER (kcell ck) 0 : sProp 𝕄))]
  iintro ⟨HI, ⟨Hat, #HR⟩, Htok, Hkv⟩
  ihave HK := (BI.bigSep_exists_pi Finset.univ (fun (ck : Dev nD × Cell) (κ : ℕ) => (cellInv ER (sched (ins m)) κ (kcell ck) : sProp 𝕄))) $$ HI
  icases HK with ⟨%K, #HI⟩
  ihave Htk := (toks_dealt (F := F)) $$ Htok
  iapply (bigSep_knowing (R := records (ins m) K) fun c _ => given_intro m K c)
  isplitr
  · unfold records; isplitl; · iexact HI
    iexact HR
  · simp only [bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c
      ∗ unscopedSems0 c ∗ made m c) : sProp 𝕄) ⊢ |={Set.univ}=> bigSep Finset.univ (given m) :=
  ((bigSep_mono fun c _ => open_device m c).trans (bigSep_fupd _ _)).trans (BI.fupd_mono (deal m))

/-! ## The credits -/

theorem tally_cells (ck ck' : Dev nD × Cell) (n : ℕ) :
    (tallyAt (kcell ck) () n : CellTallies nD τ sig Unit) (kcell ck') () = if ck' = ck then n else 0 := by
  rw [tallyAt_apply]
  by_cases h : ck' = ck
  · rw [if_pos h, if_pos ⟨by rw [h], rfl⟩]
  · rw [if_neg h, if_neg fun h' => h (kcell_injective h'.1)]

theorem due_bar (d c : Dev nD) : due d 0 (barCell c) ()
    = (if c = turn 3 d then 1 else 0) + (if c = turn 1 d then 1 else 0) + (if c = turn 2 d then 1 else 0) := by
  unfold due pays
  simp only [List.drop_zero, debt, Pi.add_apply, Finsupp.add_apply, tally_cells, Pi.zero_apply, Finsupp.zero_apply, Prod.mk.injEq,
    reduceCtorEq, and_false, and_true, if_false, Nat.zero_add]
  omega

theorem due_recv (d c : Dev nD) (e : Exch) : due d 0 (recvCell c e) () = if c = goal e d then amt e else 0 := by
  unfold due pays
  simp only [List.drop_zero, debt, Pi.add_apply, Finsupp.add_apply, tally_cells, Pi.zero_apply, Finsupp.zero_apply, Prod.mk.injEq,
    reduceCtorEq, and_false, if_false, Nat.zero_add, Nat.add_zero, Option.some.injEq]
  fin_cases e <;> simp (decide := true)

theorem sum_turn (c : Dev nD) (k n : ℕ) : (∑ d : Dev nD, if c = turn k d then n else 0) = n := by
  rw [← Equiv.sum_comp (turned k).symm, Finset.sum_congr rfl fun d _ => by rw [show turn k ((turned k).symm d) = d from (turned k).right_inv d],
    Finset.sum_ite_eq Finset.univ c fun _ => n, if_pos (Finset.mem_univ _)]

theorem credit_bar (c : Dev nD) :
    tallyOn (barCell c) (launchCredit (Pipeline.owing fun d => due d 0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => due_bar d c, Finset.sum_add_distrib,
    Finset.sum_add_distrib, sum_turn, sum_turn, sum_turn]

theorem credit_recv (c : Dev nD) (e : Exch) :
    tallyOn (recvCell c e) (launchCredit (Pipeline.owing fun d => due d 0) 0 (recvCell c e)) = (tallyAt (recvCell c e) () (amt e) : CellTallies nD τ sig Unit) := by
  unfold tallyAt; refine congrArg _ (Finsupp.ext fun u => ?_); cases u
  rw [Pipeline.launchCredit_owing, Finsupp.single_eq_same, Finset.sum_congr rfl fun d _ => due_recv d c e]
  exact sum_turn c (hop e) (amt e)

theorem credits_intro (c : Dev nD) : (Pipeline.launchCred (fun d => due d 0) c : sProp 𝕄) ⊢ credits c := by
  have h : (bigSep (Finset.univ.map ⟨csem, csem_injective⟩) (fun sm : SemLoc sig =>
      (cred (tallyOn ((c.tc : Thread nD τ), sm) (launchCredit (Pipeline.owing fun d => due d 0) 0 ((c.tc : Thread nD τ), sm))) : sProp 𝕄)))
      = iprop(cred (tallyAt (barCell c) () 3) ∗ bigSep Finset.univ (fun e => (cred (tallyOn (sendCell c e) (launchCredit (Pipeline.owing fun d => due d 0) 0 (sendCell c e))) : sProp 𝕄))
          ∗ bigSep Finset.univ (fun e => (cred (tallyAt (recvCell c e) () (amt e)) : sProp 𝕄))) := by
    rw [bigSep_map, bigSep_cells, ← credit_bar]
    simp only [← credit_recv]
    rfl
  unfold Pipeline.launchCred credits
  rw [← Finset.union_sdiff_of_subset (Finset.subset_univ (Finset.univ.map ⟨csem, csem_injective⟩)),
    bigSep_union Finset.disjoint_sdiff, h]
  show iprop(_ ∗ _) ⊢ _
  iintro ⟨⟨H1, -, H2⟩, -⟩
  isplitl [H1] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred (fun d => due d 0) c ∗ prngReg c (ρ c) ∗ given m c)
      ⊢ |={Set.univ}=> iprop(start m c ∗ emp) := by
  rw [Pipeline.unscopedRestP_none, unscopedRest0_eq]
  unfold start given
  iintro ⟨Hca, HL, Hcr, -, HG, Hkv⟩
  ihave Hc := (credits_intro (F := F) c) $$ Hcr
  imodintro
  isplitl
  · isplitl [HG]; · iexact HG
    isplitl [Hc]; · iexact Hc
    isplitl [HL]; · iexact HL
    isplitl [Hkv]; · iexact Hkv
    unfold caches
    iexact Hca
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀ scratch
  iintro ⟨Hs, -, Hr⟩
  isplitl [Hs]; · iexact Hs
  iexact Hr

theorem leave (c : Dev nD) :
    (dats m 0 c).Φ (Fin.last cfg0.N)
      ⊢ iprop((caches (ins m) c ∗ unscopedSems0 c) ∗ Pipeline.ownSems0 osem c ∗ Pipeline.scopedRest cfg0.spec c) := by
  rw [show (dats m 0 c).Φ (Fin.last cfg0.N) = after₀ m c from rfl, scopedRest0_eq, ownSems_eq, unscopedSems_eq]
  unfold after₀ scratch closed
  iintro ⟨Hca, Hs, Hkv, HB, HS, HV⟩
  isplitl [Hca HB]
  · isplitl [Hca] <;> iassumption
  isplitr [Hs]
  · isplitl [Hkv]; · iexact Hkv
    isplitl [HS] <;> iassumption
  iexact Hs

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_zero c _ 0 (by fin_cases w <;> fin_cases s <;> decide)
    · exact mayWait_done c _

/-- An array's contents after the run. -/
def finalA (c : Dev nD) (w : Fin cfg0.W) : Buf (Elt F) ((cfg0.win w).arr.view.loc (c : Thread nD τ)) := (dats m 0 c).arrAt w cfg0.N

/-- What every final state has: the windows' arrays at their final contents, and the caches as they were. -/
def Done (s : MemSt nD τ sig (Elt F)) : Prop :=
  ∀ c : Dev nD, (∀ w : Fin cfg0.W, s.mem ((cfg0.win w).arr.view.loc (c : Thread nD τ)) = finalA m c w)
    ∧ s.mem ((c : Thread nD τ).loc main_arg2) = m ((c : Thread nD τ).loc main_arg2)
    ∧ s.mem ((c : Thread nD τ).loc main_arg3) = m ((c : Thread nD τ).loc main_arg3)

theorem read_rest (c : Dev nD) (s' : Phys nD τ sig (Elt F)) :
    iprop((caches (ins m) c ∗ unscopedSems0 c) ∗ (emp : sProp 𝕄) ∗ SI s')
      ⊢ |={Set.univ}=> iprop(⌜(s'.mem.mem ((c : Thread nD τ).loc main_arg2) = m ((c : Thread nD τ).loc main_arg2)
          ∧ s'.mem.mem ((c : Thread nD τ).loc main_arg3) = m ((c : Thread nD τ).loc main_arg3))
          ∧ ∀ sm : SemLoc sig, sm.isScoped .tc = false → s'.mem.sem ((c.tc : Thread nD τ), sm) = 0⌝ ∗ SI s') := by
  unfold caches
  iintro ⟨⟨⟨H2, H3⟩, Hu⟩, -, HSI⟩
  imod (Pipeline.unscopedSems0_read (X := unscopedSems0 c) (c := c) fupd_intro s') $$ [Hu HSI] with ⟨%hz, HSI⟩
  · isplitl [Hu] <;> iassumption
  icombine HSI H2 gives %h2
  icombine HSI H3 gives %h3
  imodintro
  isplitr
  · ipureintro
    exact ⟨⟨Buf.eq_of_forall_mem_univ h2, Buf.eq_of_forall_mem_univ h3⟩, hz⟩
  iexact HSI

set_option maxHeartbeats 1000000 in
/-- For any float values, from any memory with zero counters: every fair execution ends, with every device's arrays at
    the computed contents, its caches as they were, and every counter at zero. -/
theorem run_main : θ_run defs (onTc (τ := τ) (main (F := F))) ⟨m, fun _ => 0, ρ⟩ (fun r => Done m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => due d 0) (howed₀ := fun _ => rfl) (howedN := fun _ => rfl)
    (L := L) (lv := lv) (hL := L_of_ne) (hwaits := waits m)
    (G := made m) (G' := given m) (u₀ := u₀)
    (hu₀ := by
      unfold u₀
      iintro Hu
      ihave H := (ownU_pair _ _) $$ Hu
      icases H with ⟨HP, HX⟩
      imod (fund m) $$ [HX] with HG
      · iexact HX
      imodintro
      isplitl [HP] <;> iassumption)
    (hglob := glob m)
    (hA := fun _ _ => rfl) (hpf := fun _ k => k.elim0)
    (X := start m) (Y := fun c => iprop(caches (ins m) c ∗ unscopedSems0 c)) (Z := fun _ => iprop(emp))
    (hX := start_intro m ρ) (hin := enter m) (hout := leave m)
    (QY := fun c s => (s.mem ((c : Thread nD τ).loc main_arg2) = m ((c : Thread nD τ).loc main_arg2)
      ∧ s.mem ((c : Thread nD τ).loc main_arg3) = m ((c : Thread nD τ).loc main_arg3))
      ∧ ∀ sm : SemLoc sig, sm.isScoped .tc = false → s.sem ((c.tc : Thread nD τ), sm) = 0)
    (hY := read_rest m)
    (hQ := fun _ h hs => ⟨fun c => ⟨(h c).1, (h c).2.2.1⟩, sem_eq_zero hs fun c => (h c).2.2.2⟩)

/-! ## The arrays' final contents -/

theorem finalA_x (c : Dev nD) : finalA m c (0 : Fin 4) = m ((c : Thread nD τ).loc main_arg0) :=
  (dats (F := F) m 0 c).arrAt_in (0 : Fin 4) rfl _
theorem finalA_wq (c : Dev nD) : finalA m c (1 : Fin 4) = m ((c : Thread nD τ).loc main_arg1) :=
  (dats (F := F) m 0 c).arrAt_in (1 : Fin 4) rfl _
theorem finalA_wo (c : Dev nD) : finalA m c (2 : Fin 4) = m ((c : Thread nD τ).loc main_arg4) :=
  (dats (F := F) m 0 c).arrAt_in (2 : Fin 4) rfl _
theorem finalA_out (c : Dev nD) : finalA m c (3 : Fin 4) = fin (ins m) := by
  refine (block3 _).symm.trans ?_
  unfold finalA
  rw [show cfg0.N = ((0 : Fin 1) : Fin cfg0.N).val + 1 from rfl, (dats m 0 c).arrAt_succ (3 : Fin 4) (0 : Fin 1)]
  rw [if_pos (flush0_3 (0 : Fin 1))]
  exact View.read_write_univ _ _

end Cert.KernelIdeal.Body
-- ==== Proof.Frames.lean ====
/-
  The frames: the run of the launch, read at the argument arrays, for the kernel in machine words and over the extended
  reals, and the reference's run read the same way.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Init

@[expose] public section

set_option maxRecDepth 16384

noncomputable section

namespace Cert.Proof

attribute [local instance] Cert.Kernel.Gen.facts Cert.KernelIdeal.Gen.facts

open Idealize.ShloMosaic Idealize.ShloMosaic.TcCoe Idealize.SL.Sem
open Cert.KernelIdeal.Body

/-- The launch leaves the five argument arrays as they were. -/
theorem args_kept {F : FTy → Type} [FloatOps F]
    (m : (ℓ : Loc Cert.KernelIdeal.nD Cert.KernelIdeal.τ Cert.KernelIdeal.sig) → Buf (Elt F) ℓ)
    {s : MemSt Cert.KernelIdeal.nD Cert.KernelIdeal.τ Cert.KernelIdeal.sig (Elt F)} (h : Done m s) (c : Dev Cert.KernelIdeal.nD) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨((h c).1 0).trans (finalA_x m c), ((h c).1 1).trans (finalA_wq m c), (h c).2.1, (h c).2.2,
    ((h c).1 2).trans (finalA_wo m c)⟩

/-- The kernel's run, at any float values, from any body table equal to its own: its arguments kept and every counter back at zero. -/
theorem run_kept {F : FTy → Type} [FloatOps F]
    (m : (ℓ : Loc Cert.KernelIdeal.nD Cert.KernelIdeal.τ Cert.KernelIdeal.sig) → Buf (Elt F) ℓ)
    (ρ : Dev Cert.KernelIdeal.nD → PrngReg) (defs : Defs Cert.KernelIdeal.nD Cert.KernelIdeal.τ Cert.KernelIdeal.sig (Elt F) _)
    (hd : defs = Cert.KernelIdeal.defs (F := F)) :
    θ_run defs (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) := by
  subst hd
  exact (θ_run Cert.KernelIdeal.defs _ _).mono (fun _ h => ⟨args_kept m h.1, h.2⟩) (run_main m ρ)

/-- The two programs are the same text: their body tables are equal. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
  | ⟨n + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) bodies_eq

/-- The kernel in machine words runs to the end, its arguments kept and every counter back at zero. -/
theorem frame_kernel : Cert.quiescent_Kernel (hKernel := Cert.Kernel.Gen.facts) := fun m ρ _ =>
  run_kept (F := Bits) m ρ _ defs_eq

/-- So does the kernel over the extended reals. -/
theorem frame_kernelIdeal : Cert.quiescent_KernelIdeal (hKernelIdeal := Cert.KernelIdeal.Gen.facts) := fun m ρ _ =>
  run_kept (F := Ideal) m ρ _ rfl

/-- And the reference, which has no counter. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Payloads.lean ====
/-
  The kernel's payloads over the extended reals, each read at an index: the sums that its products are.
-/
module

public import proofs.«01_k».proof.Proof.Steps
public import Idealize.ShloMosaic.Lib.Pointwise

@[expose] public section

set_option maxRecDepth 16384

noncomputable section

namespace Cert.KernelIdeal.Value

open Cert.KernelIdeal Cert.KernelIdeal.Gen Cert.KernelIdeal.Body
open Idealize.ShloMosaic

/-- A chunk's queries. -/
theorem pay1_apply (x : Vec Ideal S1x256x1024 .f32) (w : Vec Ideal S1024x1024 .f32) (i : Fin 256) (j : Fin 1024) :
    k0_pay1 x w (ix2 i j) = ∑ k : Fin 1024, x (ix3 0 i k) * w (ix2 k j) := by
  pointwise [k0_pay1]

/-- A partial product. -/
theorem pay16_apply (a : Vec Ideal S256x1024 .f32) (w : Vec Ideal S1024x1024 .f32) (i : Fin 256) (n : Fin 1024) :
    k0_pay16 a w (ix3 0 i n) = ∑ j : Fin 1024, a (ix2 i j) * w (ix2 j n) := by
  pointwise [k0_pay16]

/-- The sum of four partial products. -/
theorem pay74_apply (p : Vec Ideal S1x256x1024 .f32) (a b c : Vec Ideal S1x1x256x1024 .f32) (i : Fin 256) (n : Fin 1024) :
    k0_pay74 p a b c (ix3 0 i n)
      = p (ix3 0 i n) + a (ix4 0 0 i n) + b (ix4 0 0 i n) + c (ix4 0 0 i n) := by
  pointwise [k0_pay74]

/-- The score of a query against a key, for head `h` of a chunk. -/
def score (h : Fin 8) (q : FVec Ideal S256x1024 .f32) (k : Vec Ideal S1x1x1x1024x128 .f32) (i : Fin 256) (s : Fin 1024) : EReal :=
  (∑ e : Fin 128, q (ix2 i ⟨128 * h.val + e.val, by omega⟩) * k (ix5 0 0 0 s e)) * Ideal.ofBits .f32 0x3DB504F3#32

/-- One head's output. -/
theorem headPay_apply (h : Fin 8) (q : FVec Ideal S256x1024 .f32) (k v : Vec Ideal S1x1x1x1024x128 .f32)
    (i : Fin 256) (d : Fin 128) :
    headPay h q k v (ix2 i d)
      = Ideal.div (∑ s : Fin 1024, Ideal.exp (score h q k i s) * v (ix5 0 0 0 s d))
          (∑ s : Fin 1024, Ideal.exp (score h q k i s)) := by
  pointwise [headPay, score]

end Cert.KernelIdeal.Value

end
-- ==== Proof.Softmax.lean ====
/-
  Weighted means with exponential weights over the extended reals: where the scores are finite, subtracting one finite
  number from all of them changes nothing, whatever the values that are averaged.
-/
module

public import Idealize.ShloMosaic.PureOps.Ideal
public import Idealize.ShloMosaic.PureOps.Ideal.Laws

@[expose] public section

noncomputable section

namespace Cert.Softmax

open Idealize.ShloMosaic

/-- Neither infinity. -/
def Finite (e : EReal) : Prop := ∃ r : ℝ, e = (r : EReal)

theorem Finite.mul {a b : EReal} (ha : Finite a) (hb : Finite b) : Finite (a * b) := by
  obtain ⟨r, rfl⟩ := ha
  obtain ⟨s, rfl⟩ := hb
  exact ⟨r * s, (EReal.coe_mul r s).symm⟩

theorem Finite.add {a b : EReal} (ha : Finite a) (hb : Finite b) : Finite (a + b) := by
  obtain ⟨r, rfl⟩ := ha
  obtain ⟨s, rfl⟩ := hb
  exact ⟨r + s, (EReal.coe_add r s).symm⟩

theorem Finite.sum {ι : Type} (s : Finset ι) {f : ι → EReal} (hf : ∀ i, Finite (f i)) : Finite (∑ i ∈ s, f i) := by
  classical
  induction s using Finset.induction_on with
  | empty => exact ⟨0, by simp⟩
  | insert a s ha ih => rw [Finset.sum_insert ha]; exact (hf a).add ih

/-- An extended real whose magnitude is below `⊤` is finite. -/
theorem finite_of_abs_lt {a : EReal} (h : max a (-a) < ⊤) : Finite a := by
  induction a with
  | bot => simp at h
  | top => simp at h
  | coe r => exact ⟨r, rfl⟩

/-- The largest of finitely many finite numbers, one at least, is finite. -/
theorem finite_fold_max {n : ℕ} (f : Fin (n + 1) → EReal) (hf : ∀ i, Finite (f i)) :
    Finite (Finset.univ.fold max ⊥ f) := by
  have key : ∀ s : Finset (Fin (n + 1)), s.fold max ⊥ f = ⊥ ∧ s = ∅ ∨ Finite (s.fold max ⊥ f) := by
    intro s
    induction s using Finset.induction_on with
    | empty => exact .inl ⟨Finset.fold_empty, rfl⟩
    | insert a s ha ih =>
      refine .inr ?_
      rw [Finset.fold_insert ha]
      rcases ih with ⟨h, _⟩ | h
      · rw [h, max_eq_left bot_le]; exact hf a
      · rcases max_choice (f a) (s.fold max ⊥ f) with h' | h' <;> rw [h']
        · exact hf a
        · exact h
  rcases key Finset.univ with ⟨_, h⟩ | h
  · exact absurd h (Finset.univ_nonempty.ne_empty)
  · exact h

/-- The scale of the scores is finite. -/
theorem finite_scale : Finite (Ideal.ofBits .f32 0x3DB504F3#32) := by
  simp only [Ideal.ofBits, Ideal.ieee]
  rw [if_neg (by decide), if_neg (by decide)]
  exact ⟨_, rfl⟩

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-- A positive finite factor goes through a sum. -/
theorem sum_mul_coe {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The weighted mean is the same with `M` subtracted from every score. -/
theorem softmax_shift {n : ℕ} (S V : Fin (n + 1) → EReal) (M : EReal) (hS : ∀ s, Finite (S s)) (hM : Finite M) :
    Ideal.div (∑ s, V s * Ideal.exp (S s - M)) (∑ s, Ideal.exp (S s - M))
      = Ideal.div (∑ s, Ideal.exp (S s) * V s) (∑ s, Ideal.exp (S s)) := by
  choose σ hσ using hS
  obtain ⟨μ, rfl⟩ := hM
  obtain rfl : S = fun s => (σ s : EReal) := funext hσ
  have he : ∀ s, Ideal.exp ((σ s : EReal) - (μ : EReal)) = (Real.exp (σ s) : EReal) * (Real.exp (-μ) : EReal) := by
    intro s
    rw [← EReal.coe_sub, Ideal.exp_coe, sub_eq_add_neg, Real.exp_add, EReal.coe_mul]
  have hr : 0 < Real.exp (-μ) := Real.exp_pos _
  have hB : 0 < ∑ s, Real.exp (σ s) := Finset.sum_pos (fun s _ => Real.exp_pos _) Finset.univ_nonempty
  have hnum : ∑ s, V s * Ideal.exp ((σ s : EReal) - (μ : EReal))
      = (∑ s, Ideal.exp (σ s : EReal) * V s) * (Real.exp (-μ) : EReal) := by
    rw [← sum_mul_coe _ _ hr.le]
    refine Finset.sum_congr rfl fun s _ => ?_
    rw [he, Ideal.exp_coe, mul_comm (V s), mul_assoc, mul_assoc, mul_comm (V s)]
  have hden : ∑ s, Ideal.exp ((σ s : EReal) - (μ : EReal)) = (((∑ s, Real.exp (σ s)) * Real.exp (-μ) : ℝ) : EReal) := by
    rw [EReal.coe_mul, ← sum_coe, ← sum_mul_coe _ _ hr.le]
    exact Finset.sum_congr rfl fun s _ => he s
  have hden' : ∑ s, Ideal.exp (σ s : EReal) = ((∑ s, Real.exp (σ s) : ℝ) : EReal) := by
    rw [← sum_coe]
    exact Finset.sum_congr rfl fun s _ => Ideal.exp_coe _
  rw [hnum, hden, hden']
  unfold Ideal.div
  rw [if_neg (by exact_mod_cast (mul_pos hB hr).ne'), if_neg (by exact_mod_cast hB.ne'), mul_assoc]
  congr 1
  rw [← EReal.coe_inv, ← EReal.coe_mul, ← EReal.coe_inv]
  congr 1
  field_simp

end Cert.Softmax

end
-- ==== Proof.RefValue.lean ====
/-
  The reference's result at an index: a sum over the 32 heads' columns, side by side, of softmax-weighted means.
-/
module

public import proofs.«01_k».proof.Proof.Softmax
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Attention

open Idealize.ShloMosaic Cert.Softmax

variable (x : FVec Ideal ⟨3, ![4, 256, 1024]⟩ .f32) (wq : FVec Ideal ⟨2, ![1024, 4096]⟩ .f32)
  (k v : FVec Ideal ⟨4, ![4, 1024, 32, 128]⟩ .f32) (wo : FVec Ideal ⟨2, ![4096, 1024]⟩ .f32)

/-- The score of query `i` against key `s`, for head `h` and batch element `b`. -/
def scoreAt (b : Fin 4) (h : Fin 32) (i : Fin 256) (s : Fin 1024) : EReal :=
  (∑ e : Fin 128, (∑ n : Fin 1024, x (ix3 b i n) * wq (ix2 n ⟨h.val * 128 + e.val, by omega⟩)) * k (ix4 b s h e))
    * Ideal.ofBits .f32 0x3DB504F3#32

/-- Head `h`'s output: the values' mean, weighted by the exponentials of the scores. -/
def meanAt (b : Fin 4) (h : Fin 32) (i : Fin 256) (d : Fin 128) : EReal :=
  Ideal.div (∑ s : Fin 1024, Ideal.exp (scoreAt x wq k b h i s) * v (ix4 b s h d))
    (∑ s : Fin 1024, Ideal.exp (scoreAt x wq k b h i s))

/-- The result: the heads' outputs side by side, times the output weights. -/
def outAt (b : Fin 4) (i : Fin 256) (n : Fin 1024) : EReal :=
  ∑ j : Fin 4096, meanAt x wq k v b ⟨j.val / 128, by omega⟩ i ⟨j.val % 128, Nat.mod_lt _ (by decide)⟩ * wo (ix2 j n)

theorem scoreAt_finite (hx : ∀ i, Finite (x i)) (hw : ∀ i, Finite (wq i)) (hk : ∀ i, Finite (k i))
    (b : Fin 4) (h : Fin 32) (i : Fin 256) (s : Fin 1024) : Finite (scoreAt x wq k b h i s) :=
  (Finite.sum _ fun _ => (Finite.sum _ fun _ => (hx _).mul (hw _)).mul (hk _)).mul finite_scale

open Cert.ReferenceIdeal Cert.ReferenceIdeal.Gen

/-! ## The reference's stages -/

/-- The scores. -/
def scoresV (x : FVec Ideal S4x256x1024 .f32) (wq : FVec Ideal S1024x4096 .f32) (k : FVec Ideal S4x1024x32x128 .f32) :
    FVec Ideal S4x32x256x1024 .f32 :=
  mulf (Host.dotGeneral dot_S4x256x32x128_S4x1024x32x128_S4x32x256x1024_3_3_1_1_02_02 none
    (shapeCast _ (Host.dotGeneral dot_S4x256x1024_S1024x4096_S4x256x4096_2_0_01_1_n_n none x wq)
      shapeCasts_S4x256x4096_S4x256x32x128) k)
    (broadcastInDim S4x32x256x1024 ![] bcast_S_S4x32x256x1024 (constant S_ .f32 0x3DB504F3#32))

/-- The greatest score of each query. -/
def topV (s : FVec Ideal S4x32x256x1024 .f32) : FVec Ideal S4x32x256x1 .f32 :=
  maximumf (broadcastInDim S4x32x256x1 ![] bcast_S_S4x32x256x1 (constant S_ .f32 0xFF800000#32))
    (broadcastInDim S4x32x256x1 ![0, 1, 2] bcast_S4x32x256_S4x32x256x1_0_1_2
      (Host.reduce FloatOps.maximumf s (constant S_ .f32 0xFF800000#32) reducesTo_S4x32x256x1024_S4x32x256_d3 h_S_))

/-- The weights. -/
def weightsV (s : FVec Ideal S4x32x256x1024 .f32) (t : FVec Ideal S4x32x256x1 .f32) : FVec Ideal S4x32x256x1024 .f32 :=
  Host.exp (subf s (broadcastInDim S4x32x256x1024 ![0, 1, 2, 3] bcast_S4x32x256x1_S4x32x256x1024_0_1_2_3 t))

/-- The factor of what the loop held before its one turn. -/
def fadeV (t : FVec Ideal S4x32x256x1 .f32) : FVec Ideal S4x32x256x1 .f32 :=
  Host.exp (subf (broadcastInDim S4x32x256x1 ![] bcast_S_S4x32x256x1 (constant S_ .f32 0xFF800000#32)) t)

/-- The weights' sums. -/
def denV (e : FVec Ideal S4x32x256x1024 .f32) (a : FVec Ideal S4x32x256x1 .f32) : FVec Ideal S4x32x256x1 .f32 :=
  addf (mulf (broadcastInDim S4x32x256x1 ![] bcast_S_S4x32x256x1 (constant S_ .f32 0x00000000#32)) a)
    (broadcastInDim S4x32x256x1 ![0, 1, 2] bcast_S4x32x256_S4x32x256x1_0_1_2
      (Host.reduceAdd e (constant S_ .f32 0x00000000#32) reducesTo_S4x32x256x1024_S4x32x256_d3 h_S_))

/-- The weighted values. -/
def numV (v : FVec Ideal S4x1024x32x128 .f32) (e : FVec Ideal S4x32x256x1024 .f32) (a : FVec Ideal S4x32x256x1 .f32) :
    FVec Ideal S4x256x32x128 .f32 :=
  addf (mulf (broadcastInDim S4x256x32x128 ![] bcast_S_S4x256x32x128 (constant S_ .f32 0x00000000#32))
    (broadcastInDim S4x256x32x128 ![0, 1, 2, 3] bcast_S4x256x32x1_S4x256x32x128_0_1_2_3
      (transpose S4x256x32x1 [0, 2, 1, 3] a transposes_S4x32x256x1_S4x256x32x1_0_2_1_3)))
    (transpose S4x256x32x128 [0, 3, 1, 2]
      (Host.dotGeneral dot_S4x1024x32x128_S4x32x256x1024_S4x32x128x256_1_3_3_2_02_01 none v e)
      transposes_S4x32x128x256_S4x256x32x128_0_3_1_2)

/-- The heads' outputs. -/
def quotV (p : FVec Ideal S4x256x32x128 .f32) (l : FVec Ideal S4x32x256x1 .f32) : FVec Ideal S4x256x32x128 .f32 :=
  Host.divf p (broadcastInDim S4x256x32x128 ![0, 1, 2, 3] bcast_S4x256x32x1_S4x256x32x128_0_1_2_3
    (transpose S4x256x32x1 [0, 2, 1, 3] l transposes_S4x32x256x1_S4x256x32x1_0_2_1_3))

/-- The result. -/
def outV (q : FVec Ideal S4x256x32x128 .f32) (wo : FVec Ideal S4096x1024 .f32) : FVec Ideal S4x256x1024 .f32 :=
  Host.dotGeneral dot_S4x256x4096_S4096x1024_S4x256x1024_2_0_01_1_n_n none
    (shapeCast _ q shapeCasts_S4x256x32x128_S4x256x4096) wo

/-! ## Each stage at an index -/

theorem scoresV_apply (b : Fin 4) (h : Fin 32) (i : Fin 256) (s : Fin 1024) :
    scoresV x wq k (ix4 b h i s) = scoreAt x wq k b h i s := by
  pointwise [scoresV, scoreAt]

theorem greatest_apply (S : FVec Ideal S4x32x256x1024 .f32) (b : Fin 4) (h : Fin 32) (i : Fin 256) :
    Host.reduce FloatOps.maximumf S (constant S_ .f32 0xFF800000#32) reducesTo_S4x32x256x1024_S4x32x256_d3 h_S_ (ix3 b h i)
      = Finset.univ.fold max (Ideal.ofBits .f32 0xFF800000#32) fun s : Fin 1024 => S (ix4 b h i s) := by
  pointwise

theorem maxBot_apply (R : FVec Ideal S4x32x256 .f32) (b : Fin 4) (h : Fin 32) (i : Fin 256) :
    maximumf (broadcastInDim S4x32x256x1 ![] bcast_S_S4x32x256x1 (constant S_ .f32 0xFF800000#32))
        (broadcastInDim S4x32x256x1 ![0, 1, 2] bcast_S4x32x256_S4x32x256x1_0_1_2 R) (ix4 b h i 0)
      = R (ix3 b h i) := by
  pointwise
  rw [ofBits_neg_inf]
  exact max_eq_right bot_le

theorem topV_apply (S : FVec Ideal S4x32x256x1024 .f32) (b : Fin 4) (h : Fin 32) (i : Fin 256) :
    topV S (ix4 b h i 0) = Finset.univ.fold max ⊥ fun s : Fin 1024 => S (ix4 b h i s) :=
  (maxBot_apply _ b h i).trans ((greatest_apply S b h i).trans
    (congrArg (fun z => Finset.univ.fold max z fun s : Fin 1024 => S (ix4 b h i s)) ofBits_neg_inf))

theorem weightsV_apply (S : FVec Ideal S4x32x256x1024 .f32) (t : FVec Ideal S4x32x256x1 .f32)
    (b : Fin 4) (h : Fin 32) (i : Fin 256) (s : Fin 1024) :
    weightsV S t (ix4 b h i s) = Ideal.exp (S (ix4 b h i s) - t (ix4 b h i 0)) := by
  pointwise [weightsV]

theorem denV_apply (e : FVec Ideal S4x32x256x1024 .f32) (a : FVec Ideal S4x32x256x1 .f32)
    (b : Fin 4) (h : Fin 32) (i : Fin 256) :
    denV e a (ix4 b h i 0) = ∑ s : Fin 1024, e (ix4 b h i s) := by
  pointwise [denV]
  rw [zero_mul, zero_add]

theorem numV_apply (e : FVec Ideal S4x32x256x1024 .f32) (a : FVec Ideal S4x32x256x1 .f32)
    (b : Fin 4) (h : Fin 32) (i : Fin 256) (d : Fin 128) :
    numV v e a (ix4 b i h d) = ∑ s : Fin 1024, v (ix4 b s h d) * e (ix4 b h i s) := by
  pointwise [numV]
  rw [zero_mul, zero_add]

theorem quotV_apply (p : FVec Ideal S4x256x32x128 .f32) (l : FVec Ideal S4x32x256x1 .f32)
    (b : Fin 4) (h : Fin 32) (i : Fin 256) (d : Fin 128) :
    quotV p l (ix4 b i h d) = Ideal.div (p (ix4 b i h d)) (l (ix4 b h i 0)) := by
  pointwise [quotV]

theorem outV_apply (q : FVec Ideal S4x256x32x128 .f32) (b : Fin 4) (i : Fin 256) (n : Fin 1024) :
    outV q wo (ix3 b i n)
      = ∑ j : Fin 4096, q (ix4 b i ⟨j.val / 128, by omega⟩ ⟨j.val % 128, Nat.mod_lt _ (by decide)⟩) * wo (ix2 j n) := by
  pointwise [outV]

/-! ## The whole -/

/-- The reference's result, from finite scores. -/
theorem ref_apply (hx : ∀ i, Finite (x i)) (hw : ∀ i, Finite (wq i)) (hk : ∀ i, Finite (k i))
    (b : Fin 4) (i : Fin 256) (n : Fin 1024) :
    outV (quotV (numV v (weightsV (scoresV x wq k) (topV (scoresV x wq k))) (fadeV (topV (scoresV x wq k))))
        (denV (weightsV (scoresV x wq k) (topV (scoresV x wq k))) (fadeV (topV (scoresV x wq k))))) wo (ix3 b i n)
      = outAt x wq k v wo b i n := by
  rw [outV_apply]
  unfold outAt
  refine Finset.sum_congr rfl fun j _ => ?_
  refine congrArg (· * wo (ix2 j n)) ?_
  rw [quotV_apply, numV_apply, denV_apply]
  simp only [weightsV_apply, topV_apply, scoresV_apply]
  exact softmax_shift (n := 1023) _ _ _ (fun s => scoreAt_finite x wq k hx hw hk _ _ _ s)
    (finite_fold_max (n := 1023) _ fun s => scoreAt_finite x wq k hx hw hk _ _ _ s)

/-- The reference's run computes it. -/
theorem res_eq (m : (ℓ : Loc nD τ sig) → Buf (Elt Ideal) ℓ) (c : Dev nD) :
    Cert.ReferenceIdeal.Value.res_main_v30 m c
      = (let x : FVec Ideal S4x256x1024 .f32 := m ((c.tc : Thread nD τ).loc main_arg0)
         let wq : FVec Ideal S1024x4096 .f32 := m ((c.tc : Thread nD τ).loc main_arg1)
         let k : FVec Ideal S4x1024x32x128 .f32 := m ((c.tc : Thread nD τ).loc main_arg2)
         let v : FVec Ideal S4x1024x32x128 .f32 := m ((c.tc : Thread nD τ).loc main_arg3)
         let wo : FVec Ideal S4096x1024 .f32 := m ((c.tc : Thread nD τ).loc main_arg4)
         outV (quotV (numV v (weightsV (scoresV x wq k) (topV (scoresV x wq k))) (fadeV (topV (scoresV x wq k))))
           (denV (weightsV (scoresV x wq k) (topV (scoresV x wq k))) (fadeV (topV (scoresV x wq k))))) wo) := rfl

end Cert.Attention

end
-- ==== Proof.KernelValue.lean ====
/-
  The kernel's result at an index, its four devices holding their blocks of the whole arrays: each device's partial product
  is the sum over its own 1024 of the 4096 columns, and the result is the four devices' sum.
-/
module

public import proofs.«01_k».proof.Proof.Contents
public import proofs.«01_k».proof.Proof.Payloads
public import proofs.«01_k».proof.Proof.RefValue
public import Idealize.ShloMosaic.Lib.Pointwise.IndexBridge

@[expose] public section

set_option maxRecDepth 16384

noncomputable section

namespace Cert.KernelIdeal.Value

open Cert.KernelIdeal Cert.KernelIdeal.Gen Cert.KernelIdeal.Body Cert.Attention
open Idealize.ShloMosaic

variable (x : FVec Ideal ⟨3, ![4, 256, 1024]⟩ .f32) (wq : FVec Ideal ⟨2, ![1024, 4096]⟩ .f32)
  (k v : FVec Ideal ⟨4, ![4, 1024, 32, 128]⟩ .f32) (wo : FVec Ideal ⟨2, ![4096, 1024]⟩ .f32) (I : Ins Ideal)

/-- Each device holds its blocks of the whole arrays: `x` whole, its columns of the query weights, its eight heads of
    the keys and of the values, its rows of the output weights. -/
structure Holds : Prop where
  x : ∀ (c : Fin 4) (b : Fin 4) (i : Fin 256) (n : Fin 1024), I.x c (ix3 b i n) = x (ix3 b i n)
  wq : ∀ (c : Fin 4) (n j : Fin 1024), I.wq c (ix2 n j) = wq (ix2 n ⟨1024 * c.val + j.val, by omega⟩)
  k : ∀ (c b : Fin 4) (s : Fin 1024) (h : Fin 8) (e : Fin 128),
    I.k c (ix4 b s h e) = k (ix4 b s ⟨8 * c.val + h.val, by omega⟩ e)
  v : ∀ (c b : Fin 4) (s : Fin 1024) (h : Fin 8) (e : Fin 128),
    I.v c (ix4 b s h e) = v (ix4 b s ⟨8 * c.val + h.val, by omega⟩ e)
  wo : ∀ (c : Fin 4) (j n : Fin 1024), I.wo c (ix2 j n) = wo (ix2 ⟨1024 * c.val + j.val, by omega⟩ n)

/-! ## A chunk's queries, keys and values -/

theorem qv_apply (c : Fin 4) (t : Fin 4) (i : Fin 256) (j : Fin 1024) :
    qv I c t (ix2 i j) = ∑ n : Fin 1024, I.x c (ix3 (chunk c t) i n) * I.wq c (ix2 n j) := by
  unfold qv
  rw [pay1_apply]
  refine Finset.sum_congr rfl fun n _ => congrArg (· * I.wq c (ix2 n j)) (congrArg (I.x c) ?_)
  rw [ix3_eq_valueIdx]; rfl

theorem kvSlab_apply (a : Vec Ideal S4x1024x8x128 .f32) (c t : Fin 4) (h : Fin 8) (s : Fin 1024) (e : Fin 128) :
    kvSlab a c t h (ix5 0 0 0 s e) = a (ix4 (chunk c t) s h e) := by
  unfold kvSlab
  refine congrArg a ?_
  rw [ix4_eq_valueIdx]; rfl

variable {x wq k v wo I}

/-! ## One head -/

theorem score_eq (H : Holds x wq k v wo I) (c t : Fin 4) (h : Fin 8) (i : Fin 256) (s : Fin 1024) :
    score h (qv I c t) (kvSlab (I.k c) c t h) i s
      = scoreAt x wq k (chunk c t) ⟨8 * c.val + h.val, by omega⟩ i s := by
  unfold score scoreAt
  refine congrArg (· * Ideal.ofBits .f32 0x3DB504F3#32) (Finset.sum_congr rfl fun e _ => ?_)
  rw [kvSlab_apply, qv_apply, H.k]
  refine congrArg (· * k (ix4 (chunk c t) s ⟨8 * c.val + h.val, by omega⟩ e)) (Finset.sum_congr rfl fun n _ => ?_)
  rw [H.x, H.wq]
  refine congrArg (fun z => x (ix3 (chunk c t) i n) * wq (ix2 n z)) (Fin.ext ?_)
  show 1024 * c.val + (128 * h.val + e.val) = (8 * c.val + h.val) * 128 + e.val
  omega

theorem head_eq (H : Holds x wq k v wo I) (c t : Fin 4) (h : Fin 8) (i : Fin 256) (d : Fin 128) :
    headPay h (qv I c t) (kvSlab (I.k c) c t h) (kvSlab (I.v c) c t h) (ix2 i d)
      = meanAt x wq k v (chunk c t) ⟨8 * c.val + h.val, by omega⟩ i d := by
  rw [headPay_apply]
  unfold meanAt
  simp only [score_eq H, kvSlab_apply, H.v]

/-! ## A partial product -/

/-- Device `c`'s share of the result: the sum over its own columns. -/
def share (x : FVec Ideal ⟨3, ![4, 256, 1024]⟩ .f32) (wq : FVec Ideal ⟨2, ![1024, 4096]⟩ .f32)
    (k v : FVec Ideal ⟨4, ![4, 1024, 32, 128]⟩ .f32) (wo : FVec Ideal ⟨2, ![4096, 1024]⟩ .f32)
    (b : Fin 4) (i : Fin 256) (n : Fin 1024) (c : Fin 4) : EReal :=
  ∑ j : Fin 1024, meanAt x wq k v b ⟨(1024 * c.val + j.val) / 128, by omega⟩ i
      ⟨(1024 * c.val + j.val) % 128, Nat.mod_lt _ (by decide)⟩ * wo (ix2 ⟨1024 * c.val + j.val, by omega⟩ n)

theorem part_eq (H : Holds x wq k v wo I) (c t : Fin 4) (i : Fin 256) (n : Fin 1024) :
    part I c t (ix3 0 i n) = share x wq k v wo (chunk c t) i n c := by
  unfold part share
  rw [pay16_apply]
  refine Finset.sum_congr rfl fun j _ => ?_
  have e1 : attnAt I c t (ix2 i j)
      = headPay (headOf j) (qv I c t) (kvSlab (I.k c) c t (headOf j)) (kvSlab (I.v c) c t (headOf j))
          (ix2 i (within j)) := by
    rw [ix2_eq_valueIdx i (within j)]; rfl
  have hh : (⟨8 * c.val + (headOf j).val, by omega⟩ : Fin 32) = ⟨(1024 * c.val + j.val) / 128, by omega⟩ :=
    Fin.ext (show 8 * c.val + j.val / 128 = (1024 * c.val + j.val) / 128 by omega)
  have hw : within j = ⟨(1024 * c.val + j.val) % 128, Nat.mod_lt _ (by decide)⟩ :=
    Fin.ext (show j.val % 128 = (1024 * c.val + j.val) % 128 by omega)
  rw [e1, head_eq H, H.wo, hh, hw]

/-! ## The four devices' sum -/

theorem tot_apply (c : Fin 4) (i : Fin 256) (n : Fin 1024) :
    tot I c (ix3 0 i n)
      = part I c 3 (ix3 0 i n) + landed I c 0 (ix3 0 i n) + landed I c 1 (ix3 0 i n) + landed I c 2 (ix3 0 i n) := by
  unfold tot
  rw [pay74_apply]
  simp only [ix3_eq_valueIdx]; rfl

/-- Which chunk each of the four addends is for. -/
theorem chunks (b : Fin 4) :
    chunk (turn 3 b) 3 = b ∧ (turn 1 (turn 3 b) = b ∧ chunk b 0 = b)
    ∧ (turn 2 (turn 3 b) = turn 1 b ∧ chunk (turn 1 b) 1 = b) ∧ turn 3 (turn 3 b) = turn 2 b ∧ chunk (turn 2 b) 2 = b := by
  revert b; decide

theorem sum_round (b : Fin 4) (f : Fin 4 → EReal) :
    f (turn 3 b) + f b + f (turn 1 b) + f (turn 2 b) = ∑ c, f c := by
  rw [Fin.sum_univ_four]
  match b with
  | 0 => show f 3 + f 0 + f 1 + f 2 = _; ac_rfl
  | 1 => show f 0 + f 1 + f 2 + f 3 = _; ac_rfl
  | 2 => show f 1 + f 2 + f 3 + f 0 = _; ac_rfl
  | 3 => show f 2 + f 3 + f 0 + f 1 = _; ac_rfl

/-- What landed, by the device it came from. -/
theorem landed0 (c : Fin 4) (j : S1x256x1024.Idx) : landed I c 0 j = part I (turn 1 c) 0 j := by
  unfold landed; exact congrArg₂ (fun d t => part I d t j) (Fin.ext rfl) (Fin.ext rfl)
theorem landed1 (c : Fin 4) (j : S1x256x1024.Idx) : landed I c 1 j = part I (turn 2 c) 1 j := by
  unfold landed; exact congrArg₂ (fun d t => part I d t j) (Fin.ext rfl) (Fin.ext rfl)
theorem landed2 (c : Fin 4) (j : S1x256x1024.Idx) : landed I c 2 j = part I (turn 3 c) 2 j := by
  unfold landed; exact congrArg₂ (fun d t => part I d t j) (Fin.ext rfl) (Fin.ext rfl)

theorem fin_eq_sum (H : Holds x wq k v wo I) (b : Fin 4) (i : Fin 256) (n : Fin 1024) :
    fin I (ix3 b i n) = ∑ c, share x wq k v wo b i n c := by
  obtain ⟨h3, ⟨t0, h0⟩, ⟨t1, h1⟩, t2, h2⟩ := chunks b
  have e : fin I (ix3 b i n) = tot I (turn 3 b) (ix3 0 i n) := by rw [ix3_eq_valueIdx 0 i n]; rfl
  have l0 : landed I (turn 3 b) 0 (ix3 0 i n) = share x wq k v wo b i n b := by
    rw [landed0, part_eq H, t0, h0]
  have l1 : landed I (turn 3 b) 1 (ix3 0 i n) = share x wq k v wo b i n (turn 1 b) := by
    rw [landed1, part_eq H, t1, h1]
  have l2 : landed I (turn 3 b) 2 (ix3 0 i n) = share x wq k v wo b i n (turn 2 b) := by
    rw [landed2, part_eq H, t2, h2]
  rw [e, tot_apply, l0, l1, l2, part_eq H, h3]
  exact sum_round b _

/-- The columns, device by device. -/
theorem sum_blocks (g : Fin 4096 → EReal) :
    ∑ j, g j = ∑ c : Fin 4, ∑ j : Fin 1024, g ⟨1024 * c.val + j.val, by omega⟩ := by
  rw [← (finProdFinEquiv (m := 4) (n := 1024)).sum_comp g, Fintype.sum_prod_type]
  refine Finset.sum_congr rfl fun c _ => Finset.sum_congr rfl fun j _ => congrArg g (Fin.ext ?_)
  show j.val + 1024 * c.val = 1024 * c.val + j.val
  omega

/-- The kernel computes the reference's sum. -/
theorem fin_apply (H : Holds x wq k v wo I) (b : Fin 4) (i : Fin 256) (n : Fin 1024) :
    fin I (ix3 b i n) = outAt x wq k v wo b i n := by
  rw [fin_eq_sum H]
  unfold outAt
  rw [sum_blocks]
  rfl

end Cert.KernelIdeal.Value

end
-- ==== Proof.Finite.lean ====
/-
  What the precondition says of one device's blocks: every element of the inputs, of the query weights and of the keys is
  a real number.
-/
module

public import proofs.«01_k».proof.Proof.Softmax
public import proofs.«01_k».proof.Proof.Gen.Pre_finite_scores_KernelIdeal
public import Idealize.ShloMosaic.Lib.ReduceAll
public import Idealize.ShloMosaic.Lib.WordArith

@[expose] public section

set_option maxRecDepth 16384

noncomputable section

namespace Cert.Finite

open Idealize.ShloMosaic Cert.Softmax Cert.Pre_finite_scores_KernelIdeal

attribute [local instance] Cert.Pre_finite_scores_KernelIdeal.Gen.facts

/-- The bit that an element's test gives says that the element is finite. -/
theorem finite_of_bit {a : EReal}
    (h : Ideal.cmp .olt (max a (-a)) (Ideal.ofBits .f32 0x7F800000#32) = 1#1) : Finite a := by
  rw [ofBits_inf] at h
  refine finite_of_abs_lt ?_
  have := (Idealize.ShloMosaic.WordArith.ofBool_eq_one_iff _).1 h
  exact of_decide_eq_true this

theorem and_one {p q : BitVec 1} (h : IntOp.andi p q = 1#1) : p = 1#1 ∧ q = 1#1 := by
  revert p q; decide

/-- Its elements of the three arrays are finite. -/
theorem finite_blocks {x : FVec Ideal S4x256x1024 .f32} {wq : FVec Ideal S1024x1024 .f32}
    {k v : FVec Ideal S4x1024x8x128 .f32} {wo : FVec Ideal S1024x1024 .f32}
    (h : fn (F := Ideal) x wq k v wo = fun _ => 1#1) :
    (∀ i, Finite (x i)) ∧ (∀ i, Finite (wq i)) ∧ ∀ i, Finite (k i) := by
  dsimp only [fn] at h
  have hj := congrFun h (fun a => a.elim0)
  obtain ⟨h12, h3⟩ := and_one hj
  obtain ⟨h1, h2⟩ := and_one h12
  haveI : Subsingleton S_.Idx := ⟨fun a b => funext fun i => i.elim0⟩
  exact ⟨fun i => finite_of_bit (Host.reduce_andi_all _ _ _ _ _ h1 i),
    fun i => finite_of_bit (Host.reduce_andi_all _ _ _ _ _ h2 i),
    fun i => finite_of_bit (Host.reduce_andi_all _ _ _ _ _ h3 i)⟩

end Cert.Finite

end
-- ==== Proof.Algebraic.lean ====
/-
  The kernel and the reference compute the same array: every device's result is the reference's.
-/
module

public import proofs.«01_k».proof.Proof.Frames
public import proofs.«01_k».proof.Proof.KernelValue
public import proofs.«01_k».proof.Proof.Finite

@[expose] public section

set_option maxRecDepth 16384

noncomputable section

namespace Cert.Proof

attribute [local instance] Cert.KernelIdeal.Gen.facts Cert.ReferenceIdeal.Gen.facts
  Cert.Pre_finite_scores_KernelIdeal.Gen.facts

open Idealize.ShloMosaic Idealize.ShloMosaic.TcCoe Idealize.SL.Sem
open Cert.KernelIdeal.Body Cert.KernelIdeal.Value Cert.Attention Cert.Softmax

/-! ## A block, read at an index -/

section
variable {α : Type}

theorem block_cols (f : Shape.Idx ⟨2, ![1024, 4096]⟩ → α) (c : Fin 4) (n j : Fin 1024) :
    Layout.block ⟨2, ![1024, 1024]⟩ ⟨2, ![1024, 4096]⟩ 1 4 c f (by decide) (ix2 n j)
      = f (ix2 n ⟨1024 * c.val + j.val, by omega⟩) := by
  rw [Layout.block_apply]
  refine congrArg f (funext fun a => Fin.ext ?_)
  match a with
  | ⟨0, _⟩ => rfl
  | ⟨1, _⟩ => exact congrArg (· + j.val) (Nat.mul_comm c.val 1024)

theorem block_rows (f : Shape.Idx ⟨2, ![4096, 1024]⟩ → α) (c : Fin 4) (j n : Fin 1024) :
    Layout.block ⟨2, ![1024, 1024]⟩ ⟨2, ![4096, 1024]⟩ 0 4 c f (by decide) (ix2 j n)
      = f (ix2 ⟨1024 * c.val + j.val, by omega⟩ n) := by
  rw [Layout.block_apply]
  refine congrArg f (funext fun a => Fin.ext ?_)
  match a with
  | ⟨0, _⟩ => exact congrArg (· + j.val) (Nat.mul_comm c.val 1024)
  | ⟨1, _⟩ => rfl

theorem block_heads (f : Shape.Idx ⟨4, ![4, 1024, 32, 128]⟩ → α) (c b : Fin 4) (s : Fin 1024) (h : Fin 8) (e : Fin 128) :
    Layout.block ⟨4, ![4, 1024, 8, 128]⟩ ⟨4, ![4, 1024, 32, 128]⟩ 2 4 c f (by decide) (ix4 b s h e)
      = f (ix4 b s ⟨8 * c.val + h.val, by omega⟩ e) := by
  rw [Layout.block_apply]
  refine congrArg f (funext fun a => Fin.ext ?_)
  match a with
  | ⟨0, _⟩ => rfl
  | ⟨1, _⟩ => rfl
  | ⟨2, _⟩ => exact congrArg (· + h.val) (Nat.mul_comm c.val 8)
  | ⟨3, _⟩ => rfl

end

/-! ## The whole arrays are finite when every device's blocks are -/

section
variable {x : FVec Ideal ⟨3, ![4, 256, 1024]⟩ .f32} {wq : FVec Ideal ⟨2, ![1024, 4096]⟩ .f32}
  {k v : FVec Ideal ⟨4, ![4, 1024, 32, 128]⟩ .f32} {wo : FVec Ideal ⟨2, ![4096, 1024]⟩ .f32} {I : Ins Ideal}

theorem x_finite (H : Holds x wq k v wo I) (h : ∀ c i, Finite (I.x c i)) : ∀ i, Finite (x i) := by
  intro i
  idx_vars i
  rw [← H.x 0]
  exact h _ _

theorem wq_finite (H : Holds x wq k v wo I) (h : ∀ c i, Finite (I.wq c i)) : ∀ i, Finite (wq i) := by
  intro i
  obtain ⟨n, j, rfl⟩ : ∃ (n : Fin 1024) (j : Fin 4096), i = ix2 n j := by idx_vars i; exact ⟨_, _, rfl⟩
  have e : j = ⟨1024 * (j.val / 1024) + j.val % 1024, by omega⟩ := Fin.ext (Nat.div_add_mod _ _).symm
  rw [e]
  exact H.wq ⟨j.val / 1024, by omega⟩ n ⟨j.val % 1024, by omega⟩ ▸ h _ _

theorem k_finite (H : Holds x wq k v wo I) (h : ∀ c i, Finite (I.k c i)) : ∀ i, Finite (k i) := by
  intro i
  obtain ⟨b, s, j, d, rfl⟩ : ∃ (b : Fin 4) (s : Fin 1024) (j : Fin 32) (d : Fin 128), i = ix4 b s j d := by
    idx_vars i; exact ⟨_, _, _, _, rfl⟩
  have e : j = ⟨8 * (j.val / 8) + j.val % 8, by omega⟩ := Fin.ext (Nat.div_add_mod _ _).symm
  rw [e]
  exact H.k ⟨j.val / 8, by omega⟩ b s ⟨j.val % 8, by omega⟩ d ▸ h _ _

end

/-! ## The claim -/

theorem algebraic : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := Cert.Pre_finite_scores_KernelIdeal.Gen.facts) := by
  intro m ρ m' ρ' hpre hm
  have H : Holds (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (ins m) :=
    { x := fun c b i n => congrFun (hm c).1 (ix3 b i n)
      wq := fun c n j => (congrFun (hm c).2.1 (ix2 n j)).trans (block_cols _ c n j)
      k := fun c b s h e => (congrFun (hm c).2.2.1 (ix4 b s h e)).trans (block_heads _ c b s h e)
      v := fun c b s h e => (congrFun (hm c).2.2.2.1 (ix4 b s h e)).trans (block_heads _ c b s h e)
      wo := fun c j n => (congrFun (hm c).2.2.2.2 (ix2 j n)).trans (block_rows _ c j n) }
  have hf := fun c => Cert.Finite.finite_blocks (hpre c)
  have hv : fin (ins m) = Cert.ReferenceIdeal.Value.res_main_v30 m' (0 : Dev Cert.ReferenceIdeal.nD) := by
    funext i
    obtain ⟨b, q, n, rfl⟩ : ∃ (b : Fin 4) (q : Fin 256) (n : Fin 1024), i = ix3 b q n := by
      idx_vars i; exact ⟨_, _, _, rfl⟩
    exact (fin_apply H b q n).trans ((ref_apply _ _ _ _ _ (x_finite H fun c => (hf c).1) (wq_finite H fun c => (hf c).2.1)
      (k_finite H fun c => (hf c).2.2) b q n).symm.trans (congrFun (res_eq m' 0).symm (ix3 b q n)))
  refine ⟨Cert.ReferenceIdeal.Value.res_main_v30 m' (0 : Dev Cert.ReferenceIdeal.nD), ?_, ?_⟩
  · exact (θ_run Cert.KernelIdeal.defs _ _).mono
      (fun _ h c => ⟨((h.1 c).1 3).trans ((finalA_out m c).trans hv), args_kept m h.1 c⟩) (run_main (F := Ideal) m ρ)
  · exact (θ_run Cert.ReferenceIdeal.defs _ _).mono (fun _ h => h 0) (Cert.ReferenceIdeal.Value.run (F := Ideal) m' ρ')

end Cert.Proof

end
-- ==== Proof.lean ====
/-
  The proof of the claims: each is proved in a module of its own, here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_kernelIdeal, fun m ρ _ => frame_kernelIdeal m ρ trivial,
  frame_reference, fun m ρ _ => frame_reference m ρ trivial, trivial, algebraic⟩

end Cert.Proof

end
